-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x2048 : Shape := ⟨3, ![4, 3, 2048]⟩
abbrev S4x3x8192 : Shape := ⟨3, ![4, 3, 8192]⟩
abbrev S2x3x2048 : Shape := ⟨3, ![2, 3, 2048]⟩
abbrev S12288 : Shape := ⟨1, ![12288]⟩
abbrev S2x3x8192 : Shape := ⟨3, ![2, 3, 8192]⟩
abbrev S49152 : Shape := ⟨1, ![49152]⟩
abbrev S4096 : Shape := ⟨1, ![4096]⟩
abbrev S8192 : Shape := ⟨1, ![8192]⟩
abbrev S128 : Shape := ⟨1, ![128]⟩
abbrev S_ : Shape := ⟨0, ![]⟩
abbrev S16 : Shape := ⟨1, ![16]⟩
abbrev S1 : Shape := ⟨1, ![1]⟩
abbrev S2x2048 : Shape := ⟨2, ![2, 2048]⟩
abbrev S2x2048x1 : Shape := ⟨3, ![2, 2048, 1]⟩
abbrev S2x2048x2 : Shape := ⟨3, ![2, 2048, 2]⟩
abbrev S2x2x2048 : Shape := ⟨3, ![2, 2, 2048]⟩
abbrev S1x3x1024 : Shape := ⟨3, ![1, 3, 1024]⟩
abbrev S1x3x8192 : Shape := ⟨3, ![1, 3, 8192]⟩
abbrev S1x2x1024 : Shape := ⟨3, ![1, 2, 1024]⟩
abbrev S3x1024 : Shape := ⟨2, ![3, 1024]⟩
abbrev S3x8192 : Shape := ⟨2, ![3, 8192]⟩
abbrev S1x1024 : Shape := ⟨2, ![1, 1024]⟩
abbrev S1024 : Shape := ⟨1, ![1024]⟩
abbrev S1x8192 : Shape := ⟨2, ![1, 8192]⟩
abbrev S1024x8192 : Shape := ⟨2, ![1024, 8192]⟩
abbrev S1024x1 : Shape := ⟨2, ![1024, 1]⟩
abbrev S2x1024 : Shape := ⟨2, ![2, 1024]⟩
abbrev S4x2048x2 : Shape := ⟨3, ![4, 2048, 2]⟩

abbrev nBuf : Table → Nat
  | .hbm => 18
  | .local .tc .vmem => 6
  | .local .scVector .vmem => 16
  | _ => 0

abbrev bufTy : (tb : Table) → Fin (nBuf tb) → BufTy
  | .hbm, ⟨0, _⟩ => ⟨S4x3x2048, .f32⟩
  | .hbm, ⟨1, _⟩ => ⟨S4x3x8192, .f32⟩
  | .hbm, ⟨2, _⟩ => ⟨S2x3x2048, .f32⟩
  | .hbm, ⟨3, _⟩ => ⟨S12288, .f32⟩
  | .hbm, ⟨4, _⟩ => ⟨S2x3x8192, .f32⟩
  | .hbm, ⟨5, _⟩ => ⟨S49152, .f32⟩
  | .hbm, ⟨6, _⟩ => ⟨S4096, .i32⟩
  | .hbm, ⟨7, _⟩ => ⟨S4096, .i32⟩
  | .hbm, ⟨8, _⟩ => ⟨S2x2048, .i32⟩
  | .hbm, ⟨9, _⟩ => ⟨S2x2048, .i32⟩
  | .hbm, ⟨10, _⟩ => ⟨S2x2048x1, .i32⟩
  | .hbm, ⟨11, _⟩ => ⟨S2x2048x1, .i32⟩
  | .hbm, ⟨12, _⟩ => ⟨S2x2048x2, .i32⟩
  | .hbm, ⟨13, _⟩ => ⟨S2x3x2048, .f32⟩
  | .hbm, ⟨14, _⟩ => ⟨S2x3x8192, .f32⟩
  | .hbm, ⟨15, _⟩ => ⟨S2x2x2048, .i32⟩
  | .hbm, ⟨16, _⟩ => ⟨S2x2048x2, .i32⟩
  | .hbm, ⟨17, _⟩ => ⟨S4x2048x2, .i32⟩
  | .local .tc .vmem, ⟨0, _⟩ => ⟨S1x3x1024, .f32⟩
  | .local .tc .vmem, ⟨1, _⟩ => ⟨S1x3x1024, .f32⟩
  | .local .tc .vmem, ⟨2, _⟩ => ⟨S1x3x8192, .f32⟩
  | .local .tc .vmem, ⟨3, _⟩ => ⟨S1x3x8192, .f32⟩
  | .local .tc .vmem, ⟨4, _⟩ => ⟨S1x2x1024, .i32⟩
  | .local .tc .vmem, ⟨5, _⟩ => ⟨S1x2x1024, .i32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S8192, .f32⟩
  | .local .scVector .vmem, ⟨4, _⟩ => ⟨S8192, .f32⟩
  | .local .scVector .vmem, ⟨5, _⟩ => ⟨S8192, .f32⟩
  | .local .scVector .vmem, ⟨6, _⟩ => ⟨S8192, .f32⟩
  | .local .scVector .vmem, ⟨7, _⟩ => ⟨S128, .f32⟩
  | .local .scVector .vmem, ⟨8, _⟩ => ⟨S128, .f32⟩
  | .local .scVector .vmem, ⟨9, _⟩ => ⟨S128, .f32⟩
  | .local .scVector .vmem, ⟨10, _⟩ => ⟨S128, .f32⟩
  | .local .scVector .vmem, ⟨11, _⟩ => ⟨S128, .f32⟩
  | .local .scVector .vmem, ⟨12, _⟩ => ⟨S128, .f32⟩
  | .local .scVector .vmem, ⟨13, _⟩ => ⟨S128, .f32⟩
  | .local .scVector .vmem, ⟨14, _⟩ => ⟨S128, .i32⟩
  | .local .scVector .vmem, ⟨15, _⟩ => ⟨S128, .i32⟩
  | _, _ => ⟨S4x3x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v1_scv : Ref sig .scVector := ⟨.hbm, 3, rfl⟩
abbrev main_v3_scv : Ref sig .scVector := ⟨.hbm, 5, rfl⟩
abbrev main_v4_0_scv : Ref sig .scVector := ⟨.hbm, 6, rfl⟩
abbrev main_v4_1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c3_i32 : BitVec 32 := 3#32
  let v30 : BitVec 32 := Scalar.muli v18 c3_i32
  let v31 : BitVec 32 := Scalar.addi v30 c0_i32_10
  let c8192_i32 : BitVec 32 := 8192#32
  let v32 : BitVec 32 := Scalar.muli v31 c8192_i32
  ![v32.toNat]
def k0_off2 (i : grid0.Coords) (c0_i32_18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c3_i32_17 : BitVec 32 := 3#32
  let v39 : BitVec 32 := Scalar.muli v18 c3_i32_17
  let v40 : BitVec 32 := Scalar.addi v39 c0_i32_18
  let c2048_i32 : BitVec 32 := 2048#32
  let v41 : BitVec 32 := Scalar.muli v40 c2048_i32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v42 : BitVec 32 := Scalar.addi v41 v29
  ![v42.toNat]
@[reducible] def k0_t1_loop : Scf.Loop 32 :=
  let c0_i32_26 : BitVec 32 := 0#32
  let c512_i32 : BitVec 32 := 512#32
  let v51 : BitVec 32 := Scalar.addi c0_i32_26 c512_i32
  let c1_i32_27 : BitVec 32 := 1#32
  ⟨c0_i32_26, v51, c1_i32_27⟩
def k0_off3 (k0_t1 : Fin k0_t1_loop.trips) : Fin 1 → Nat :=
  let c0_i32_26 : BitVec 32 := 0#32
  let c1_i32_27 : BitVec 32 := 1#32
  let arg22 : BitVec 32 := Scf.iv c0_i32_26 c1_i32_27 k0_t1
  let c16_i32_43 : BitVec 32 := 16#32
  let v94 : BitVec 32 := Scalar.muli arg22 c16_i32_43
  let v95 : Index := Scalar.indexCast v94
  ![v95.toNat]
@[reducible] def k0_t2_loop : Scf.Loop 32 :=
  let c0_i32_30 : BitVec 32 := 0#32
  let c8_i32 : BitVec 32 := 8#32
  let v53 : BitVec 32 := Scalar.addi c0_i32_30 c8_i32
  let c1_i32_31 : BitVec 32 := 1#32
  ⟨c0_i32_30, v53, c1_i32_31⟩
def k0_off4 (k0_t2 : Fin k0_t2_loop.trips) : Fin 1 → Nat :=
  let c0_i32_30 : BitVec 32 := 0#32
  let c1_i32_31 : BitVec 32 := 1#32
  let arg22 : BitVec 32 := Scf.iv c0_i32_30 c1_i32_31 k0_t2
  let c16_i32_43 : BitVec 32 := 16#32
  let v94 : BitVec 32 := Scalar.muli arg22 c16_i32_43
  let v95 : Index := Scalar.indexCast v94
  ![v95.toNat]
@[reducible] def k0_t3_loop : Scf.Loop 32 :=
  let c0_i32_37 : BitVec 32 := 0#32
  let c8_i32_38 : BitVec 32 := 8#32
  let v88 : BitVec 32 := Scalar.addi c0_i32_37 c8_i32_38
  let c1_i32_39 : BitVec 32 := 1#32
  ⟨c0_i32_37, v88, c1_i32_39⟩
@[reducible] def k0_t4_loop : Scf.Loop 32 :=
  let c0_i32_45 : BitVec 32 := 0#32
  let c16_i32_46 : BitVec 32 := 16#32
  let v96 : BitVec 32 := Scalar.addi c0_i32_45 c16_i32_46
  let c1_i32_47 : BitVec 32 := 1#32
  ⟨c0_i32_45, v96, c1_i32_47⟩

def k0_chk1 (v106 : IVec S16 32) : Prop :=
  (∀ a x, ((![v106] : Fin 1 → IVec S16 32) a x).toNat < S128.size a) ∧
  (∀ a x, ((![v106] : Fin 1 → IVec S16 32) a x).toNat < S128.size a) ∧
  (∀ a x, ((![v106] : Fin 1 → IVec S16 32) a x).toNat < S128.size a) ∧
  (∀ a x, ((![v106] : Fin 1 → IVec S16 32) a x).toNat < S128.size a)
theorem k0_idx1_inb : ∀ (v106 : IVec S16 32) (k0_hw1 : k0_chk1 v106), ∀ a x, ((![v106] : Fin 1 → IVec S16 32) a x).toNat < S128.size a := fun v106 k0_hw1 => k0_hw1.1
theorem k0_idx2_inb : ∀ (v106 : IVec S16 32) (k0_hw1 : k0_chk1 v106), ∀ a x, ((![v106] : Fin 1 → IVec S16 32) a x).toNat < S128.size a := fun v106 k0_hw1 => k0_hw1.2.1
theorem k0_idx3_inb : ∀ (v106 : IVec S16 32) (k0_hw1 : k0_chk1 v106), ∀ a x, ((![v106] : Fin 1 → IVec S16 32) a x).toNat < S128.size a := fun v106 k0_hw1 => k0_hw1.2.2.1
theorem k0_idx4_inb : ∀ (v106 : IVec S16 32) (k0_hw1 : k0_chk1 v106), ∀ a x, ((![v106] : Fin 1 → IVec S16 32) a x).toNat < S128.size a := fun v106 k0_hw1 => k0_hw1.2.2.2
@[reducible] def k0_t5_loop : Scf.Loop 32 :=
  let c0_i32_55 : BitVec 32 := 0#32
  let c32_i32_56 : BitVec 32 := 32#32
  let v111 : BitVec 32 := Scalar.addi c0_i32_55 c32_i32_56
  let c1_i32_57 : BitVec 32 := 1#32
  ⟨c0_i32_55, v111, c1_i32_57⟩
def k0_off5 (arg28 : BitVec 32) (c0_i32_65 : BitVec 32) : Fin 1 → Nat :=
  let c256_i32 : BitVec 32 := 256#32
  let v127 : BitVec 32 := Scalar.muli arg28 c256_i32
  let v128 : BitVec 32 := Scalar.addi v127 c0_i32_65
  let v129 : Index := Scalar.indexCast v128
  ![v129.toNat]
def k0_cond1 (arg28 : BitVec 32) (arg29 : BitVec 32) : BitVec 1 :=
  let c32_i32_62 : BitVec 32 := 32#32
  let v121 : BitVec 1 := Scalar.cmpi .slt arg28 c32_i32_62
  let c2_i32_63 : BitVec 32 := 2#32
  let v122 : BitVec 1 := Scalar.cmpi .slt arg29 c2_i32_63
  let v123 : BitVec 1 := Scalar.andi v121 v122
  let v124 : BitVec 32 := Scalar.extui v123
  let c0_i32_64 : BitVec 32 := 0#32
  let v125 : BitVec 1 := Scalar.cmpi .ne v124 c0_i32_64
  v125

def k0_chk2 (arg28 : BitVec 32) (arg29 : BitVec 32) : Prop :=
  (∀ (k0_h1 : k0_cond1 arg28 arg29 = 1#1), ∀ (r : Fin 16), ∀ a, (k0_off5 arg28 (BitVec.ofNat 32 (16 * r.val))) a + S16.size a ≤ S8192.size a)
theorem k0_off5_inb : ∀ (arg28 : BitVec 32) (arg29 : BitVec 32) (k0_hw2 : k0_chk2 arg28 arg29), ∀ (k0_h1 : k0_cond1 arg28 arg29 = 1#1), ∀ (r : Fin 16), ∀ a, (k0_off5 arg28 (BitVec.ofNat 32 (16 * r.val))) a + S16.size a ≤ S8192.size a := fun arg28 arg29 k0_hw2 k0_h1 r => k0_hw2 k0_h1 r

def k0_off6 (k0_t3 : Fin k0_t3_loop.trips) : Fin 1 → Nat :=
  let c0_i32_37 : BitVec 32 := 0#32
  let c1_i32_39 : BitVec 32 := 1#32
  let arg22 : BitVec 32 := Scf.iv c0_i32_37 c1_i32_39 k0_t3
  let c16_i32_43 : BitVec 32 := 16#32
  let v94 : BitVec 32 := Scalar.muli arg22 c16_i32_43
  let v98 : Index := Scalar.indexCast v94
  ![v98.toNat]
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c2048_i32_41 : BitVec 32 := 2048#32
  let v90 : BitVec 32 := Scalar.muli v18 c2048_i32_41
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v91 : BitVec 32 := Scalar.addi v90 v29
  ![v91.toNat]
abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x3x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x3x2048 : Shape := ⟨3, ![4, 3, 2048]⟩
abbrev S4x3x8192 : Shape := ⟨3, ![4, 3, 8192]⟩
abbrev S4x2048x3 : Shape := ⟨3, ![4, 2048, 3]⟩
abbrev S4x8192x3 : Shape := ⟨3, ![4, 8192, 3]⟩
abbrev S_ : Shape := ⟨0, ![]⟩
abbrev S4x2048 : Shape := ⟨2, ![4, 2048]⟩
abbrev S4x8192 : Shape := ⟨2, ![4, 8192]⟩
abbrev S4x2048x8192 : Shape := ⟨3, ![4, 2048, 8192]⟩
abbrev S4x2048x1 : Shape := ⟨3, ![4, 2048, 1]⟩
abbrev S4x1x8192 : Shape := ⟨3, ![4, 1, 8192]⟩
abbrev S4x2048x2 : Shape := ⟨3, ![4, 2048, 2]⟩

abbrev nBuf : Space → Nat
  | .hbm => 62
  | .vmem => 0
  | .smem => 0
  | _ => 0

abbrev bufTy : (tb : Table) → Fin (tcTables nBuf tb) → BufTy
  | .hbm, ⟨0, _⟩ => ⟨S4x3x2048, .f32⟩
  | .hbm, ⟨1, _⟩ => ⟨S4x3x8192, .f32⟩
  | .hbm, ⟨2, _⟩ => ⟨S4x2048x3, .f32⟩
  | .hbm, ⟨3, _⟩ => ⟨S4x8192x3, .f32⟩
  | .hbm, ⟨4, _⟩ => ⟨S4x2048x3, .f32⟩
  | .hbm, ⟨5, _⟩ => ⟨S_, .f32⟩
  | .hbm, ⟨6, _⟩ => ⟨S4x2048, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x2048x8192, .f32⟩
  | .hbm, ⟨11, _⟩ => ⟨S4x2048x1, .f32⟩
  | .hbm, ⟨12, _⟩ => ⟨S4x1x8192, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S_, .f32⟩
  | .hbm, ⟨17, _⟩ => ⟨S4x2048x8192, .f32⟩
  | .hbm, ⟨18, _⟩ => ⟨S4x2048x8192, .f32⟩
  | .hbm, ⟨19, _⟩ => ⟨S4x2048x8192, .f32⟩
  | .hbm, ⟨20, _⟩ => ⟨S_, .f32⟩
  | .hbm, ⟨21, _⟩ => ⟨S4x2048x8192, .f32⟩
  | .hbm, ⟨22, _⟩ => ⟨S4x2048x8192, .i1⟩
  | .hbm, ⟨23, _⟩ => ⟨S4x2048x8192, .i32⟩
  | .hbm, ⟨24, _⟩ => ⟨S_, .i32⟩
  | .hbm, ⟨25, _⟩ => ⟨S_, .i32⟩
  | .hbm, ⟨26, _⟩ => ⟨S4x2048x8192, .i32⟩
  | .hbm, ⟨27, _⟩ => ⟨S_, .i32⟩
  | .hbm, ⟨28, _⟩ => ⟨S4x2048x8192, .i32⟩
  | .hbm, ⟨29, _⟩ => ⟨S4x2048x8192, .i32⟩
  | .hbm, ⟨30, _⟩ => ⟨S4x2048x8192, .i32⟩
  | .hbm, ⟨31, _⟩ => ⟨S_, .i1⟩
  | .hbm, ⟨32, _⟩ => ⟨S_, .i32⟩
  | .hbm, ⟨33, _⟩ => ⟨S4x2048, .i1⟩
  | .hbm, ⟨34, _⟩ => ⟨S4x2048, .i32⟩
  | .hbm, ⟨35, _⟩ => ⟨S_, .i32⟩
  | .hbm, ⟨36, _⟩ => ⟨S4x2048x8192, .i32⟩
  | .hbm, ⟨37, _⟩ => ⟨S4x2048x8192, .i1⟩
  | .hbm, ⟨38, _⟩ => ⟨S4x2048x8192, .i1⟩
  | .hbm, ⟨39, _⟩ => ⟨S_, .i1⟩
  | .hbm, ⟨40, _⟩ => ⟨S4x2048, .i1⟩
  | .hbm, ⟨41, _⟩ => ⟨S4x2048x8192, .i32⟩
  | .hbm, ⟨42, _⟩ => ⟨S_, .i1⟩
  | .hbm, ⟨43, _⟩ => ⟨S_, .i32⟩
  | .hbm, ⟨44, _⟩ => ⟨S4x2048, .i1⟩
  | .hbm, ⟨45, _⟩ => ⟨S4x2048, .i32⟩
  | .hbm, ⟨46, _⟩ => ⟨S4x2048, .i32⟩
  | .hbm, ⟨47, _⟩ => ⟨S_, .i32⟩
  | .hbm, ⟨48, _⟩ => ⟨S4x2048x8192, .i32⟩
  | .hbm, ⟨49, _⟩ => ⟨S4x2048x8192, .i1⟩
  | .hbm, ⟨50, _⟩ => ⟨S4x2048x8192, .i1⟩
  | .hbm, ⟨51, _⟩ => ⟨S_, .i1⟩
  | .hbm, ⟨52, _⟩ => ⟨S4x2048, .i1⟩
  | .hbm, ⟨53, _⟩ => ⟨S4x2048x8192, .i32⟩
  | .hbm, ⟨54, _⟩ => ⟨S_, .i1⟩
  | .hbm, ⟨55, _⟩ => ⟨S_, .i32⟩
  | .hbm, ⟨56, _⟩ => ⟨S4x2048, .i1⟩
  | .hbm, ⟨57, _⟩ => ⟨S4x2048, .i32⟩
  | .hbm, ⟨58, _⟩ => ⟨S4x2048, .i32⟩
  | .hbm, ⟨59, _⟩ => ⟨S4x2048x1, .i32⟩
  | .hbm, ⟨60, _⟩ => ⟨S4x2048x1, .i32⟩
  | .hbm, ⟨61, _⟩ => ⟨S4x2048x2, .i32⟩
  | _, _ => ⟨S4x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_call0_c : Ref sig .tc := ⟨.hbm, 24, rfl⟩
abbrev main_call0_call0_v0 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_call1_v0 : Ref sig .tc := ⟨.hbm, 30, rfl⟩
abbrev main_call1_c : Ref sig .tc := ⟨.hbm, 31, rfl⟩
abbrev main_call1_c_0 : Ref sig .tc := ⟨.hbm, 32, rfl⟩
abbrev main_call1_v1_0 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_call2_v0 : Ref sig .tc := ⟨.hbm, 41, rfl⟩
abbrev main_call2_c : Ref sig .tc := ⟨.hbm, 42, rfl⟩
abbrev main_call2_c_0 : Ref sig .tc := ⟨.hbm, 43, rfl⟩
abbrev main_call2_v1_0 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_call4_v0 : Ref sig .tc := ⟨.hbm, 53, rfl⟩
abbrev main_call4_c : Ref sig .tc := ⟨.hbm, 54, rfl⟩
abbrev main_call4_c_0 : Ref sig .tc := ⟨.hbm, 55, rfl⟩
abbrev main_call4_v1_0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Proof.Base.lean ====
/-
  The program as the launch theorem sees it: its configuration, its ghost state, its arrays by name, and the thread of
  one vector subcore. Stated once, over any float values.
-/
module

public import proofs.«01_k».proof.Defs
public import Idealize.ShloMosaic.Lib.SparseCore.Quiescent
public import Idealize.ShloMosaic.Lib.SparseCore.Ops
public import Idealize.ShloMosaic.Lib.SparseCore.Threads
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelined kernel's rounds and the transfers' counters -/

abbrev UH : Type := URounds (GSem nD τ sig) ℕ
abbrev UB : Type := URounds (GSem nD τ sig) Unit
abbrev UU : Type := UH × (UB × Counters)

/-- The assertions of this certificate. -/
abbrev SProp (F : FTy → Type) : Type := sProp (MT nD τ sig (HIx 1) (Elt F) ℕ UU ℕ)

/-- Where the handshakes' rounds live: the left factor; the transfers' counters are the right one. -/
abbrev EH : Emb UH (MT nD τ sig (HIx 1) (Elt F) ℕ UU ℕ) := embL

/-! ## A vector subcore's thread and its buffers -/

abbrev cV (L : grid0.Coords) : Fin τ.nSC := (L 0).castLE hcore0
abbrev jV (L : grid0.Coords) : Fin τ.nSub := (L 1).castLE hsub0
/-- The thread of the vector subcore at coordinates `L`. -/
abbrev thr (d : Dev nD) (L : grid0.Coords) : Thread nD τ := V d (cV L) (jV L)

end Cert.Proof
-- ==== Proof.Slots.lean ====
/-
  The first two hits of a predicate on the numbers below a bound, as a plain statement about numbers: what every
  program here computes for one centre, and the uniqueness that lets their answers be compared.
-/
module

public import Idealize.ShloMosaic.Lib.Tactic

@[expose] public section

namespace Cert.Proof

/-- `(a, b)` are the two slots of the hits of `h` below `N`: with no hit both are 0; with one hit both are that hit;
    with more, the first hit and the second. -/
def Two (h : ℕ → Prop) (N a b : ℕ) : Prop :=
  ((∀ n < N, ¬ h n) ∧ a = 0 ∧ b = 0) ∨
  (a < N ∧ h a ∧ (∀ n < N, h n → n = a) ∧ b = a) ∨
  (a < b ∧ b < N ∧ h a ∧ h b ∧ ∀ n < b, h n → n = a)

theorem Two.unique {h : ℕ → Prop} {N a b a' b' : ℕ} (H : Two h N a b) (H' : Two h N a' b') : a = a' ∧ b = b' := by
  rcases H with ⟨h0, rfl, rfl⟩ | ⟨ha, hh, hu, rfl⟩ | ⟨hab, hb, hh, hhb, hu⟩ <;>
  rcases H' with ⟨h0', rfl, rfl⟩ | ⟨ha', hh', hu', rfl⟩ | ⟨hab', hb', hh', hhb', hu'⟩
  · exact ⟨rfl, rfl⟩
  · exact absurd hh' (h0 _ ha')
  · exact absurd hhb' (h0 _ hb')
  · exact absurd hh (h0' _ ha)
  · exact ⟨hu' _ ha hh, hu' _ ha hh⟩
  · have e1 := hu _ hb' hhb'
    have e2 := hu _ (hab'.trans hb') hh'
    omega
  · exact absurd hhb (h0' _ hb)
  · have e1 := hu' _ hb hhb
    have e2 := hu' _ (hab.trans hb) hh
    omega
  · rcases lt_trichotomy b b' with hlt | rfl | hlt
    · have e1 := hu' _ hlt hhb
      have e2 := hu' _ (hab.trans hlt) hh
      omega
    · exact ⟨hu' _ hab hh, rfl⟩
    · have e1 := hu _ hlt hhb'
      have e2 := hu _ (hab'.trans hlt) hh'
      omega

theorem exists_two (h : ℕ → Prop) (N : ℕ) : ∃ p : ℕ × ℕ, Two h N p.1 p.2 := by
  classical
  by_cases h0 : ∃ n, n < N ∧ h n
  · have ha := Nat.find_spec h0
    have hm := fun n => @Nat.find_min _ _ h0 n
    generalize Nat.find h0 = a at ha hm
    by_cases h1 : ∃ n, n < N ∧ h n ∧ n ≠ a
    · have hb := Nat.find_spec h1
      have hn := fun n => @Nat.find_min _ _ h1 n
      generalize Nat.find h1 = b at hb hn
      refine ⟨(a, b), .inr (.inr ⟨?_, hb.1, ha.2, hb.2.1, fun n hnb hh => ?_⟩)⟩
      · by_contra hc
        exact hm b (lt_of_le_of_ne (not_lt.mp hc) hb.2.2) ⟨hb.1, hb.2.1⟩
      · by_contra hc
        exact hn n hnb ⟨hnb.trans hb.1, hh, hc⟩
    · refine ⟨(a, a), .inr (.inl ⟨ha.1, ha.2, fun n hnN hh => ?_, rfl⟩)⟩
      by_contra hc
      exact h1 ⟨n, hnN, hh, hc⟩
  · exact ⟨(0, 0), .inl ⟨fun n hn hh => h0 ⟨n, hn, hh⟩, rfl, rfl⟩⟩

/-- The two slots of the hits of `h` below `N`. -/
noncomputable def slots (h : ℕ → Prop) (N : ℕ) : ℕ × ℕ := (exists_two h N).choose

theorem slots_spec (h : ℕ → Prop) (N : ℕ) : Two h N (slots h N).1 (slots h N).2 := (exists_two h N).choose_spec

theorem Two.slots_eq {h : ℕ → Prop} {N a b : ℕ} (H : Two h N a b) : slots h N = (a, b) :=
  Prod.ext (H.unique (slots_spec h N)).1.symm (H.unique (slots_spec h N)).2.symm

theorem slots_congr {h h' : ℕ → Prop} {N : ℕ} (e : ∀ n < N, h n ↔ h' n) : slots h N = slots h' N := by
  refine Two.slots_eq ?_
  rcases slots_spec h' N with ⟨h0, e0, e1⟩ | ⟨ha, hh, hu, e1⟩ | ⟨hab, hb, hh, hhb, hu⟩
  · exact .inl ⟨fun n hn hh => h0 n hn ((e n hn).mp hh), e0, e1⟩
  · exact .inr (.inl ⟨ha, (e _ ha).mpr hh, fun n hn hh => hu n hn ((e n hn).mp hh), e1⟩)
  · exact .inr (.inr ⟨hab, hb, (e _ (hab.trans hb)).mpr hh, (e _ hb).mpr hhb,
      fun n hn hh => hu n hn ((e n (hn.trans hb)).mp hh)⟩)

theorem slots_lt {h : ℕ → Prop} {N : ℕ} (hN : 0 < N) : (slots h N).1 < N ∧ (slots h N).2 < N := by
  rcases slots_spec h N with ⟨_, e0, e1⟩ | ⟨ha, _, _, e1⟩ | ⟨hab, hb, _, _, _⟩
  · rw [e0, e1]; exact ⟨hN, hN⟩
  · rw [e1]; exact ⟨ha, ha⟩
  · exact ⟨hab.trans hb, hb⟩

end Cert.Proof
-- ==== Proof.Window.lean ====
/-
  One window of the SparseCore search: 256 points as sixteen registers of sixteen lanes, each register's hits a mask.
  The program finds each register's first hit lane by a running minimum of the lane numbers, joins the sixteen answers by
  minima, and does it once more with the first hit taken out. Here these steps are named, and what they compute is proved:
  the first hit of the window and the second, 256 standing for none.
-/
module

public import proofs.«01_k».proof.Proof.Gen.KernelIdeal.Skeleton
public import proofs.«01_k».proof.Proof.Slots

@[expose] public section

noncomputable section

namespace Cert.Proof

open Cert.KernelIdeal Cert.KernelIdeal.Gen
open Idealize.ShloMosaic Idealize.SL.Sem

/-! ## The steps, named -/

/-- The lane numbers of a register. -/
def lanes : IVec S16 32 := iota .scVector S16 32 [0] iota_S16_d0_w32_scVector

/-- Lane `l` of a register. -/
abbrev lane (l : Fin 16) : S16.Idx := Shape.ofLane (d := ![16]) l

/-- The word the program computes for a mask: its first set lane, 16 for none. -/
def leadW (m : IVec S16 1) : BitVec 32 :=
  extractAt ![15] (xori (scan .min (xori (select m lanes (broadcast S16 16#32)) (broadcast S16 2147483648#32))) (broadcast S16 2147483648#32)) inpos_S16_p15

/-- A register's answer for its mask: the first hit's number in the window, the register starting at `off`; 256 for none. -/
def ffsV (off : BitVec 32) (m : IVec S16 1) : IVec S16 32 :=
  select (cmpi .slt (broadcast S16 (leadW m)) (broadcast S16 16#32)) (addi (broadcast S16 (leadW m)) (broadcast S16 off)) (broadcast S16 256#32)

/-- Sixteen answers joined by minima. -/
def treeV (v : Fin 16 → IVec S16 32) : IVec S16 32 :=
  minsi (minsi (minsi (minsi (v 0) (v 1)) (minsi (v 2) (v 3))) (minsi (minsi (v 4) (v 5)) (minsi (v 6) (v 7))))
    (minsi (minsi (minsi (v 8) (v 9)) (minsi (v 10) (v 11))) (minsi (minsi (v 12) (v 13)) (minsi (v 14) (v 15))))

/-- The word `16 t`. -/
abbrev off16 (t : Fin 16) : BitVec 32 := BitVec.ofNat 32 (16 * t.val)

/-- The first hit of the window. -/
def firstV (m : Fin 16 → IVec S16 1) : IVec S16 32 := treeV fun t => ffsV (off16 t) (m t)

/-- The first hit of the window with the hit `c` taken out. -/
def restV (m : Fin 16 → IVec S16 1) (c : IVec S16 32) : IVec S16 32 :=
  treeV fun t => ffsV (off16 t) (andi (m t) (cmpi .ne (addi lanes (broadcast S16 (off16 t))) c))

/-! ## What they compute -/

theorem lanes_lane (l : Fin 16) : lanes (lane l) = BitVec.ofNat 32 l.val := by
  fin_cases l <;> rfl

theorem exists_lane (i : S16.Idx) : ∃ l : Fin 16, i = lane l := by
  refine ⟨i 0, ?_⟩
  funext a
  obtain rfl : a = 0 := Subsingleton.elim _ _
  rfl

/-- A running unsigned minimum is below every word it saw and is one of them. -/
theorem foldl_minui {ι : Type} (f : ι → BitVec 32) (L : List ι) (r : BitVec 32) :
    ((L.foldl (fun r k => ScanKind.min.step r (f k)) r).toNat ≤ r.toNat ∧ ∀ k ∈ L, (L.foldl (fun r k => ScanKind.min.step r (f k)) r).toNat ≤ (f k).toNat) ∧
      (L.foldl (fun r k => ScanKind.min.step r (f k)) r = r ∨ ∃ k ∈ L, L.foldl (fun r k => ScanKind.min.step r (f k)) r = f k) := by
  induction L generalizing r with
  | nil => simp
  | cons a L ih =>
    rw [List.foldl_cons]
    obtain ⟨⟨h1, h2⟩, h3⟩ := ih (ScanKind.min.step r (f a))
    generalize L.foldl (fun r k => ScanKind.min.step r (f k)) (ScanKind.min.step r (f a)) = R at h1 h2 h3
    have hs : ((ScanKind.min.step r (f a)).toNat ≤ r.toNat ∧ (ScanKind.min.step r (f a)).toNat ≤ (f a).toNat) ∧
        (ScanKind.min.step r (f a) = r ∨ ScanKind.min.step r (f a) = f a) := by
      have e : ScanKind.min.step r (f a) = if r.toNat < (f a).toNat then r else f a := by
        show (if r.ult (f a) then r else f a) = _
        by_cases h : r.toNat < (f a).toNat <;> simp [BitVec.ult, h]
      rw [e]
      split
      · exact ⟨⟨by omega, by omega⟩, .inl rfl⟩
      · exact ⟨⟨by omega, by omega⟩, .inr rfl⟩
    refine ⟨⟨h1.trans hs.1.1, fun k hk => ?_⟩, ?_⟩
    · rcases List.mem_cons.mp hk with rfl | hk
      · exact h1.trans hs.1.2
      · exact h2 k hk
    · rcases h3 with h3 | ⟨k, hk, h3⟩
      · rcases hs.2 with e | e
        · exact .inl (h3.trans e)
        · exact .inr ⟨a, List.mem_cons_self, h3.trans e⟩
      · exact .inr ⟨k, List.mem_cons_of_mem _ hk, h3⟩

theorem scan_min_last (u : IVec S16 32) :
    (∀ l : Fin 16, (scan .min u (lane 15)).toNat ≤ (u (lane l)).toNat) ∧ ∃ l : Fin 16, scan .min u (lane 15) = u (lane l) := by
  have H := foldl_minui (fun k : Fin 16 => u (lane k))
    ((List.finRange 16).filter fun k => decide (0 < k.val ∧ k.val ≤ 15)) (u (lane 0))
  have e : scan .min u (lane 15) = ((List.finRange 16).filter fun k => decide (0 < k.val ∧ k.val ≤ 15)).foldl
      (fun r k => ScanKind.min.step r (u (lane k))) (u (lane 0)) := rfl
  rw [← e] at H
  refine ⟨fun l => ?_, ?_⟩
  · by_cases hl : l = 0
    · subst hl; exact H.1.1
    · refine H.1.2 l (List.mem_filter.mpr ⟨List.mem_finRange l, ?_⟩)
      have : l.val ≠ 0 := fun h => hl (Fin.ext h)
      simp; omega
  · rcases H.2 with h | ⟨k, _, h⟩
    · exact ⟨0, h⟩
    · exact ⟨k, h⟩

theorem flip_toNat {k : ℕ} (hk : k ≤ 16) : (BitVec.ofNat 32 k ^^^ 2147483648#32).toNat = k + 2147483648 := by
  have key : ∀ k : Fin 17, (BitVec.ofNat 32 k.val ^^^ 2147483648#32).toNat = k.val + 2147483648 := by decide
  exact key ⟨k, by omega⟩

theorem lead_spec (m : IVec S16 1) :
    ∃ k : ℕ, k ≤ 16 ∧ leadW m = BitVec.ofNat 32 k ∧ (∀ l : Fin 16, l.val < k → m (lane l) ≠ 1#1) ∧
      (∀ h : k < 16, m (lane ⟨k, h⟩) = 1#1) := by
  obtain ⟨hle, L, hL⟩ := scan_min_last (xori (select m lanes (broadcast S16 16#32)) (broadcast S16 2147483648#32))
  have hval : ∀ l : Fin 16, xori (select m lanes (broadcast S16 16#32)) (broadcast S16 2147483648#32) (lane l)
      = BitVec.ofNat 32 (if m (lane l) = 1#1 then l.val else 16) ^^^ 2147483648#32 := by
    intro l
    show (if m (lane l) = 1 then lanes (lane l) else 16#32) ^^^ 2147483648#32 = _
    rw [lanes_lane]
    by_cases h : m (lane l) = 1#1
    · simp [h]
    · simp [h]
  have hlead : leadW m = scan .min (xori (select m lanes (broadcast S16 16#32)) (broadcast S16 2147483648#32)) (lane 15) ^^^ 2147483648#32 := by
    show scan .min (xori (select m lanes (broadcast S16 16#32)) (broadcast S16 2147483648#32)) _ ^^^ 2147483648#32 = _
    congr 2
    funext a
    obtain rfl : a = 0 := Subsingleton.elim _ _
    rfl
  have hb : ∀ l : Fin 16, (if m (lane l) = 1#1 then l.val else 16) ≤ 16 := by
    intro l; split <;> omega
  rw [hL] at hle
  refine ⟨if m (lane L) = 1#1 then L.val else 16, hb L, ?_, fun l hl hm => ?_, fun h => ?_⟩
  · rw [hlead, hL, hval, BitVec.xor_assoc, BitVec.xor_self, BitVec.xor_zero]
  · have := hle l
    rw [hval, hval, flip_toNat (hb L), flip_toNat (hb l), if_pos hm] at this
    omega
  · by_cases hm : m (lane L) = 1#1
    · simp only [hm, if_true]
    · simp only [hm, if_false] at h; omega

/-- `v` is the same word in every lane: the first number in `[lo, hi)` where `P` holds, 256 for none. -/
def Fst (P : ℕ → Prop) (lo hi : ℕ) (v : IVec S16 32) : Prop :=
  ∃ r, r ≤ 256 ∧ (∀ i, v i = BitVec.ofNat 32 r) ∧
    ((r = 256 ∧ ∀ n, lo ≤ n → n < hi → ¬ P n) ∨ (lo ≤ r ∧ r < hi ∧ P r ∧ ∀ n, lo ≤ n → n < r → ¬ P n))

theorem slt_ofNat {a b : ℕ} (ha : a < 2147483648) (hb : b < 2147483648) :
    (BitVec.ofNat 32 a).slt (BitVec.ofNat 32 b) = decide (a < b) := by
  rw [BitVec.slt_eq_decide, BitVec.toInt_eq_toNat_of_lt, BitVec.toInt_eq_toNat_of_lt, BitVec.toNat_ofNat, BitVec.toNat_ofNat,
    Nat.mod_eq_of_lt (by omega), Nat.mod_eq_of_lt (by omega)]
  · simp
  · rw [BitVec.toNat_ofNat, Nat.mod_eq_of_lt (by omega)]; omega
  · rw [BitVec.toNat_ofNat, Nat.mod_eq_of_lt (by omega)]; omega

theorem ofNat_inj {a b : ℕ} (ha : a < 4294967296) (hb : b < 4294967296) : BitVec.ofNat 32 a = BitVec.ofNat 32 b ↔ a = b := by
  constructor
  · intro h
    have := congrArg BitVec.toNat h
    rwa [BitVec.toNat_ofNat, BitVec.toNat_ofNat, Nat.mod_eq_of_lt (by omega), Nat.mod_eq_of_lt (by omega)] at this
  · rintro rfl; rfl

theorem ffsV_fst {P : ℕ → Prop} {t : Fin 16} {m : IVec S16 1} (hm : ∀ l : Fin 16, m (lane l) = 1#1 ↔ P (16 * t.val + l.val)) :
    Fst P (16 * t.val) (16 * t.val + 16) (ffsV (off16 t) m) := by
  obtain ⟨k, hk, hw, hlt, heq⟩ := lead_spec m
  have ht := t.isLt
  by_cases h : k < 16
  · refine ⟨16 * t.val + k, by omega, fun i => ?_, .inr ⟨by omega, by omega, (hm ⟨k, h⟩).mp (heq h), fun n h1 h2 hP => ?_⟩⟩
    · show (if BitVec.ofBool ((leadW m).slt 16#32) = 1 then leadW m + off16 t else 256#32) = _
      rw [hw, slt_ofNat (by omega) (by omega), decide_eq_true h, show BitVec.ofBool true = (1 : BitVec 1) from rfl, if_pos rfl, ← BitVec.ofNat_add, Nat.add_comm]
    · have hl : n - 16 * t.val < 16 := by omega
      refine hlt ⟨n - 16 * t.val, hl⟩ (by show n - 16 * t.val < k; omega) ((hm _).mpr ?_)
      show P (16 * t.val + (n - 16 * t.val))
      rwa [Nat.add_sub_cancel' h1]
  · obtain rfl : k = 16 := by omega
    refine ⟨256, le_refl _, fun i => ?_, .inl ⟨rfl, fun n h1 h2 hP => ?_⟩⟩
    · show (if BitVec.ofBool ((leadW m).slt 16#32) = 1 then leadW m + off16 t else 256#32) = _
      rw [hw, slt_ofNat (by omega) (by omega)]; rfl
    · have hl : n - 16 * t.val < 16 := by omega
      refine hlt ⟨n - 16 * t.val, hl⟩ hl ((hm _).mpr ?_)
      show P (16 * t.val + (n - 16 * t.val))
      rwa [Nat.add_sub_cancel' h1]

theorem minsi_fst {P : ℕ → Prop} {a b c : ℕ} {u v : IVec S16 32} (hu : Fst P a b u) (hv : Fst P b c v) (hab : a ≤ b) (hbc : b ≤ c) (hc : c ≤ 256) :
    Fst P a c (minsi u v) := by
  obtain ⟨r, hr, hur, Hu⟩ := hu
  obtain ⟨s, hs, hvs, Hv⟩ := hv
  have hmin : ∀ i, minsi u v i = BitVec.ofNat 32 (if r < s then r else s) := by
    intro i
    show (if (u i).slt (v i) then u i else v i) = _
    rw [hur, hvs, slt_ofNat (by omega) (by omega)]
    by_cases h : r < s <;> simp [h]
  refine ⟨_, ?_, hmin, ?_⟩
  · split <;> omega
  rcases Hu with ⟨rfl, Hu⟩ | ⟨h1, h2, h3, h4⟩
  · rw [if_neg (by omega)]
    rcases Hv with ⟨rfl, Hv⟩ | ⟨g1, g2, g3, g4⟩
    · refine .inl ⟨rfl, fun n hn hn' => ?_⟩
      by_cases hnb : n < b
      · exact Hu n hn hnb
      · exact Hv n (by omega) hn'
    · refine .inr ⟨by omega, g2, g3, fun n hn hn' => ?_⟩
      by_cases hnb : n < b
      · exact Hu n hn hnb
      · exact g4 n (by omega) hn'
  · have hrs : r < s := by rcases Hv with ⟨rfl, _⟩ | ⟨g1, _⟩ <;> omega
    rw [if_pos hrs]
    exact .inr ⟨h1, by omega, h3, h4⟩

theorem treeV_fst {P : ℕ → Prop} {v : Fin 16 → IVec S16 32} (hv : ∀ t : Fin 16, Fst P (16 * t.val) (16 * t.val + 16) (v t)) :
    Fst P 0 256 (treeV v) := by
  have j2 : ∀ {a b c : ℕ} {u w : IVec S16 32}, Fst P a b u → Fst P b c w → a ≤ b → b ≤ c → c ≤ 256 → Fst P a c (minsi u w) :=
    fun hu hw => minsi_fst hu hw
  refine j2 (b := 128) (j2 (b := 64) (j2 (b := 32) (j2 (b := 16) (hv 0) (hv 1) ?_ ?_ ?_) (j2 (b := 48) (hv 2) (hv 3) ?_ ?_ ?_) ?_ ?_ ?_)
    (j2 (b := 96) (j2 (b := 80) (hv 4) (hv 5) ?_ ?_ ?_) (j2 (b := 112) (hv 6) (hv 7) ?_ ?_ ?_) ?_ ?_ ?_) ?_ ?_ ?_)
    (j2 (b := 192) (j2 (b := 160) (j2 (b := 144) (hv 8) (hv 9) ?_ ?_ ?_) (j2 (b := 176) (hv 10) (hv 11) ?_ ?_ ?_) ?_ ?_ ?_)
    (j2 (b := 224) (j2 (b := 208) (hv 12) (hv 13) ?_ ?_ ?_) (j2 (b := 240) (hv 14) (hv 15) ?_ ?_ ?_) ?_ ?_ ?_) ?_ ?_ ?_) ?_ ?_ ?_ <;> decide

/-- The first hit of the window. -/
theorem firstV_fst {P : ℕ → Prop} {m : Fin 16 → IVec S16 1} (hm : ∀ t l : Fin 16, m t (lane l) = 1#1 ↔ P (16 * t.val + l.val)) :
    Fst P 0 256 (firstV m) := treeV_fst fun t => ffsV_fst (hm t)

/-- The first hit of the window other than `r`. -/
theorem restV_fst {P : ℕ → Prop} {m : Fin 16 → IVec S16 1} (hm : ∀ t l : Fin 16, m t (lane l) = 1#1 ↔ P (16 * t.val + l.val))
    {c : IVec S16 32} {r : ℕ} (hr : r ≤ 256) (hc : ∀ i, c i = BitVec.ofNat 32 r) :
    Fst (fun n => P n ∧ n ≠ r) 0 256 (restV m c) := by
  refine treeV_fst fun t => ffsV_fst fun l => ?_
  have ht := t.isLt
  have hl := l.isLt
  show (m t (lane l) &&& BitVec.ofBool (lanes (lane l) + off16 t != c (lane l))) = 1#1 ↔ _
  rw [lanes_lane, hc, ← BitVec.ofNat_add, ← hm t l, Nat.add_comm l.val]
  have hne : ((BitVec.ofNat 32 (16 * t.val + l.val) != BitVec.ofNat 32 r) = true) ↔ 16 * t.val + l.val ≠ r := by
    rw [bne_iff_ne, Ne, ofNat_inj (by omega) (by omega)]
  generalize (BitVec.ofNat 32 (16 * t.val + l.val) != BitVec.ofNat 32 r) = b at hne ⊢
  rw [← hne]
  have key : ∀ (x : BitVec 1) (b : Bool), (x &&& BitVec.ofBool b) = 1#1 ↔ x = 1#1 ∧ b = true := by decide
  exact key _ _

end Cert.Proof
-- ==== Proof.Search.lean ====
/-
  The search of one centre over the windows: the state carried from window to window (windows done, hits found up to two,
  the first, the second), one window's update as the program computes it, and what the state means.
-/
module

public import proofs.«01_k».proof.Proof.Window

@[expose] public section

noncomputable section

namespace Cert.Proof

open Cert.KernelIdeal Cert.KernelIdeal.Gen
open Idealize.ShloMosaic Idealize.SL.Sem

/-- Windows done, hits found (at most two are counted), the first hit, the second. -/
abbrev St : Type := BitVec 32 × BitVec 32 × BitVec 32 × BitVec 32

/-- Lane 0 of a register. -/
def head (v : IVec S16 32) : BitVec 32 := extractAt ![0] (extractStridedSlice S1 ![0] v slices_S16_o0_S1) inpos_S1_p0

/-- One window's update from the window's first two hits `r0`, `r1` (256 for none). -/
def upd (j nf i0 i1 r0 r1 : BitVec 32) : St :=
  (Scalar.addi j 1#32,
    Scalar.select (Scalar.cmpi .slt r0 256#32) (Scalar.select (Scalar.cmpi .eq nf 0#32) (Scalar.select (Scalar.cmpi .slt r1 256#32) 2#32 1#32) 2#32) nf,
    Scalar.select (Scalar.andi (Scalar.cmpi .slt r0 256#32) (Scalar.cmpi .eq nf 0#32)) (Scalar.addi (Scalar.muli j 256#32) r0) i0,
    Scalar.select (Scalar.cmpi .slt r0 256#32) (Scalar.select (Scalar.cmpi .eq nf 0#32) (Scalar.addi (Scalar.muli j 256#32) r1) (Scalar.addi (Scalar.muli j 256#32) r0)) i1)

/-- One window's update from its sixteen masks. -/
def stepSt (m : Fin 16 → IVec S16 1) (st : St) : St :=
  upd st.1 st.2.1 st.2.2.1 st.2.2.2 (head (firstV m)) (head (restV m (firstV m)))

/-- What the state says of the hits of `h` below `N`. -/
def Found (h : ℕ → Prop) (N : ℕ) (nf i0 i1 : BitVec 32) : Prop :=
  (nf = 0#32 ∧ ∀ n < N, ¬ h n) ∨
  (nf = 1#32 ∧ ∃ a, a < N ∧ i0 = BitVec.ofNat 32 a ∧ h a ∧ ∀ n < N, h n → n = a) ∨
  (nf = 2#32 ∧ ∃ a b, a < b ∧ b < N ∧ i0 = BitVec.ofNat 32 a ∧ i1 = BitVec.ofNat 32 b ∧ h a ∧ h b ∧ ∀ n < b, h n → n = a)

theorem head_eq {v : IVec S16 32} {w : BitVec 32} (h : ∀ i, v i = w) : head v = w := h _

theorem base_add {J r : ℕ} (hJ : J < 32) (hr : r ≤ 256) :
    Scalar.addi (Scalar.muli (BitVec.ofNat 32 J) 256#32) (BitVec.ofNat 32 r) = BitVec.ofNat 32 (256 * J + r) := by
  show BitVec.ofNat 32 J * 256#32 + BitVec.ofNat 32 r = _
  rw [← BitVec.ofNat_mul, ← BitVec.ofNat_add, Nat.mul_comm]

theorem hit_bit {r : ℕ} (hr : r ≤ 256) : Scalar.cmpi .slt (BitVec.ofNat 32 r) 256#32 = BitVec.ofBool (decide (r < 256)) := by
  show BitVec.ofBool ((BitVec.ofNat 32 r).slt 256#32) = _
  rw [slt_ofNat (by omega) (by omega)]

/-- A window keeps the state's meaning. -/
theorem upd_found {h : ℕ → Prop} {J r0 r1 : ℕ} {nf i0 i1 : BitVec 32} (hJ : J < 32) (H : Found h (256 * J) nf i0 i1) (hnf : nf ≠ 2#32)
    (hr0 : r0 ≤ 256) (hr1 : r1 ≤ 256)
    (H0 : (r0 = 256 ∧ ∀ n < 256, ¬ h (256 * J + n)) ∨ (r0 < 256 ∧ h (256 * J + r0) ∧ ∀ n < r0, ¬ h (256 * J + n)))
    (H1 : (r1 = 256 ∧ ∀ n < 256, ¬ (h (256 * J + n) ∧ n ≠ r0)) ∨ (r1 < 256 ∧ (h (256 * J + r1) ∧ r1 ≠ r0) ∧ ∀ n < r1, ¬ (h (256 * J + n) ∧ n ≠ r0))) :
    (upd (BitVec.ofNat 32 J) nf i0 i1 (BitVec.ofNat 32 r0) (BitVec.ofNat 32 r1)).1 = BitVec.ofNat 32 (J + 1) ∧
      Found h (256 * (J + 1)) (upd (BitVec.ofNat 32 J) nf i0 i1 (BitVec.ofNat 32 r0) (BitVec.ofNat 32 r1)).2.1
        (upd (BitVec.ofNat 32 J) nf i0 i1 (BitVec.ofNat 32 r0) (BitVec.ofNat 32 r1)).2.2.1
        (upd (BitVec.ofNat 32 J) nf i0 i1 (BitVec.ofNat 32 r0) (BitVec.ofNat 32 r1)).2.2.2 := by
  refine ⟨(BitVec.ofNat_add J 1).symm, ?_⟩
  unfold upd
  simp only [base_add hJ hr0, base_add hJ hr1, hit_bit hr0, hit_bit hr1]
  -- a number below the next bound lies below the old one or in the window
  have split : ∀ n, n < 256 * (J + 1) → n < 256 * J ∨ ∃ k, k < 256 ∧ n = 256 * J + k := fun n hn => by
    by_cases h : n < 256 * J
    · exact .inl h
    · exact .inr ⟨n - 256 * J, by omega, by omega⟩
  rcases H with ⟨rfl, Hn⟩ | ⟨rfl, a, ha, rfl, hha, hau⟩ | ⟨rfl, _⟩
  · rcases H0 with ⟨rfl, H0⟩ | ⟨h0, hh0, H0⟩
    · refine .inl ⟨rfl, fun n hn hh => ?_⟩
      rcases split n hn with h | ⟨k, hk, rfl⟩
      · exact Hn n h hh
      · exact H0 k hk hh
    · rcases H1 with ⟨rfl, H1⟩ | ⟨h1, ⟨hh1, hne⟩, H1⟩
      · refine .inr (.inl ⟨by simp [h0, Scalar.select, Scalar.cmpi, IntOp.cmpi], 256 * J + r0, by omega, ?_, hh0, fun n hn hh => ?_⟩)
        · simp [h0, Scalar.select, Scalar.cmpi, IntOp.cmpi, Scalar.andi, IntOp.andi]
        · rcases split n hn with h | ⟨k, hk, rfl⟩
          · exact absurd hh (Hn n h)
          · by_contra hc
            exact H1 k hk ⟨hh, fun e => hc (by rw [e])⟩
      · have hlt : r0 < r1 := by
          rcases lt_or_gt_of_ne hne with h | h
          · exact absurd hh1 (H0 _ h)
          · exact h
        refine .inr (.inr ⟨by simp [h0, h1, Scalar.select, Scalar.cmpi, IntOp.cmpi], 256 * J + r0, 256 * J + r1, by omega, by omega, ?_, ?_, hh0, hh1, fun n hn hh => ?_⟩)
        · simp [h0, Scalar.select, Scalar.cmpi, IntOp.cmpi, Scalar.andi, IntOp.andi]
        · simp [h0, Scalar.select, Scalar.cmpi, IntOp.cmpi]
        · rcases split n (by omega) with h | ⟨k, hk, rfl⟩
          · exact absurd hh (Hn n h)
          · by_contra hc
            exact H1 k (by omega) ⟨hh, fun e => hc (by rw [e])⟩
  · rcases H0 with ⟨rfl, H0⟩ | ⟨h0, hh0, H0⟩
    · refine .inr (.inl ⟨rfl, a, by omega, rfl, hha, fun n hn hh => ?_⟩)
      rcases split n hn with h | ⟨k, hk, rfl⟩
      · exact hau n h hh
      · exact absurd hh (H0 k hk)
    · refine .inr (.inr ⟨by simp [h0, Scalar.select, Scalar.cmpi, IntOp.cmpi], a, 256 * J + r0, by omega, by omega, ?_, ?_, hha, hh0, fun n hn hh => ?_⟩)
      · simp [h0, Scalar.select, Scalar.cmpi, IntOp.cmpi, Scalar.andi, IntOp.andi]
      · simp [h0, Scalar.select, Scalar.cmpi, IntOp.cmpi]
      · rcases split n (by omega) with h | ⟨k, hk, rfl⟩
        · exact hau n h hh
        · exact absurd hh (H0 k (by omega))
  · exact absurd rfl hnf

/-- What the loop over the windows keeps: `J` windows done, the state's meaning below `256 J`, and all windows up to the
    trip done unless two hits are found. -/
def Sought (h : ℕ → Prop) (t : ℕ) (st : St) : Prop :=
  ∃ J, J ≤ 32 ∧ st.1 = BitVec.ofNat 32 J ∧ Found h (256 * J) st.2.1 st.2.2.1 st.2.2.2 ∧ (st.2.1 = 2#32 ∨ J = t)

theorem Sought.zero (h : ℕ → Prop) : Sought h 0 (0#32, 0#32, 0#32, 0#32) :=
  ⟨0, by omega, rfl, .inl ⟨rfl, fun n hn => absurd hn (by omega)⟩, .inr rfl⟩

theorem Sought.step {h : ℕ → Prop} {t : ℕ} {st : St} {m : Fin 16 → IVec S16 1} (ht : t < 32) (H : Sought h t st) (hnf : st.2.1 ≠ 2#32)
    (hm : ∀ T l : Fin 16, m T (lane l) = 1#1 ↔ h (256 * t + (16 * T.val + l.val))) : Sought h (t + 1) (stepSt m st) := by
  obtain ⟨J, hJ, e, F, hor⟩ := H
  obtain rfl : J = t := hor.resolve_left hnf
  obtain ⟨r0, hr0, hv0, H0⟩ := firstV_fst (P := fun n => h (256 * J + n)) hm
  obtain ⟨r1, hr1, hv1, H1⟩ := restV_fst (P := fun n => h (256 * J + n)) hm hr0 hv0
  have key := upd_found (i0 := st.2.2.1) (i1 := st.2.2.2) ht F hnf hr0 hr1
    (H0.imp (fun ⟨e, H⟩ => ⟨e, fun n hn => H n (Nat.zero_le _) hn⟩) (fun ⟨_, a, b, H⟩ => ⟨a, b, fun n hn => H n (Nat.zero_le _) hn⟩))
    (H1.imp (fun ⟨e, H⟩ => ⟨e, fun n hn => H n (Nat.zero_le _) hn⟩) (fun ⟨_, a, b, H⟩ => ⟨a, b, fun n hn => H n (Nat.zero_le _) hn⟩))
  unfold stepSt
  rw [head_eq hv0, head_eq hv1, e]
  exact ⟨J + 1, by omega, key.1, key.2, .inr rfl⟩

theorem Sought.stay {h : ℕ → Prop} {t : ℕ} {st : St} (H : Sought h t st) (hst : st.2.1 = 2#32) : Sought h (t + 1) st := by
  obtain ⟨J, hJ, e, F, _⟩ := H
  exact ⟨J, hJ, e, F, .inl hst⟩

theorem Found.nf {h : ℕ → Prop} {N : ℕ} {nf i0 i1 : BitVec 32} (H : Found h N nf i0 i1) : nf = 0#32 ∨ nf = 1#32 ∨ nf = 2#32 :=
  H.imp And.left (Or.imp And.left And.left)

/-- The guard of a window: fewer than 32 windows done, fewer than two hits. -/
theorem cond_iff {h : ℕ → Prop} {t : ℕ} {st : St} (H : Sought h t st) (ht : t < 32) : k0_cond1 st.1 st.2.1 = 1#1 ↔ st.2.1 ≠ 2#32 := by
  obtain ⟨J, hJ, e, F, hor⟩ := H
  have hJ' : st.2.1 = 2#32 ∨ J < 32 := hor.imp_right (fun e => by omega)
  rw [e]
  have hs : Scalar.cmpi .slt (BitVec.ofNat 32 J) 32#32 = BitVec.ofBool (decide (J < 32)) := by
    show BitVec.ofBool ((BitVec.ofNat 32 J).slt 32#32) = _
    rw [slt_ofNat (by omega) (by omega)]
  unfold k0_cond1
  simp only [hs]
  rcases F.nf with e | e | e <;> rw [e] at hJ' ⊢
  · have := hJ'.resolve_left (by decide); simp [this]; decide
  · have := hJ'.resolve_left (by decide); simp [this]; decide
  · generalize decide (J < 32) = b
    cases b <;> decide

/-- A window that runs reads inside the points. -/
theorem off5_inb {h : ℕ → Prop} {t : ℕ} {st : St} (H : Sought h t st) (ht : t < 32) : k0_chk2 st.1 st.2.1 := by
  intro hc r a
  have hne := (cond_iff H ht).mp hc
  obtain ⟨J, hJ, e, F, hor⟩ := H
  obtain rfl : J = t := hor.resolve_left hne
  rw [e]
  obtain rfl : a = 0 := Subsingleton.elim _ _
  have key : ∀ (J : Fin 32) (r : Fin 16), k0_off5 (BitVec.ofNat 32 J.val) (BitVec.ofNat 32 (16 * r.val)) 0 = 256 * J.val + 16 * r.val := by decide
  rw [key ⟨J, ht⟩ r]
  show 256 * J + 16 * r.val + 16 ≤ 8192
  have := r.isLt
  omega

/-- The two words the program makes of the state at the end. -/
def slot0W (nf i0 : BitVec 32) : BitVec 32 := Scalar.select (Scalar.cmpi .sge nf 1#32) i0 0#32
def slot1W (nf i0 i1 : BitVec 32) : BitVec 32 := Scalar.select (Scalar.cmpi .sge nf 2#32) i1 (slot0W nf i0)

theorem Sought.slots {h : ℕ → Prop} {st : St} (H : Sought h 32 st) :
    slot0W st.2.1 st.2.2.1 = BitVec.ofNat 32 (slots h 8192).1 ∧ slot1W st.2.1 st.2.2.1 st.2.2.2 = BitVec.ofNat 32 (slots h 8192).2 := by
  obtain ⟨J, hJ, e, F, hor⟩ := H
  unfold slot1W slot0W
  rcases F with ⟨h0, Hn⟩ | ⟨h1, a, ha, e0, hha, hau⟩ | ⟨h2, a, b, hab, hb, e0, e1, hha, hhb, hu⟩
  · obtain rfl := hor.resolve_left (by rw [h0]; decide)
    have : Two h 8192 0 0 := .inl ⟨Hn, rfl, rfl⟩
    rw [this.slots_eq, h0]
    exact ⟨rfl, rfl⟩
  · obtain rfl := hor.resolve_left (by rw [h1]; decide)
    have : Two h 8192 a a := .inr (.inl ⟨ha, hha, hau, rfl⟩)
    rw [this.slots_eq, h1, e0]
    exact ⟨rfl, rfl⟩
  · have : Two h 8192 a b := .inr (.inr ⟨hab, by omega, hha, hhb, hu⟩)
    rw [this.slots_eq, h2, e0, e1]
    exact ⟨rfl, rfl⟩

end Cert.Proof
-- ==== Proof.Trip.lean ====
/-
  One trip of the loop over the windows, run: sixty-four register loads from the four tables of the points (the three
  rounded coordinates and the squared length), the sixteen masks they make against one centre, and the state's update.
-/
module

public import proofs.«01_k».proof.Proof.Base
public import proofs.«01_k».proof.Proof.Search

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A register of points against one centre: which lie nearer than the radius. -/
def maskV (cx cy cz c2 px py pz p2 : FVec F S16 .f32) : IVec S16 1 :=
  cmpf .olt (subf (addf c2 p2) (mulf (broadcast S16 (Scalar.ofBits .f32 0x40000000#32)) (addf (addf (mulf cx px) (mulf cy py)) (mulf cz pz))))
    (broadcast S16 (Scalar.ofBits .f32 0x3C23D70A#32))

/-- A table of the points as the loads name it. -/
abbrev pX : Memref sig .scVector .vmem S8192 .f32 := Memref.whole cc0_scratch3
abbrev pY : Memref sig .scVector .vmem S8192 .f32 := Memref.whole cc0_scratch4
abbrev pZ : Memref sig .scVector .vmem S8192 .f32 := Memref.whole cc0_scratch5
abbrev pQ : Memref sig .scVector .vmem S8192 .f32 := Memref.whole cc0_scratch6

/-- The trip of the loop over the windows, at this launch's buffers. -/
abbrev trip5 (L : grid0.Coords) (cx cy cz c2 : Vec F S16 .f32) :=
  k0_t5_body (F := F) L (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scoped0 cc0_scoped1 cc0_scoped2 cc0_scoped3 cc0_scoped4 cc0_scoped5 cc0_scoped6 cc0_scoped7
    lanes k0_pay90 k0_pay91 k0_pay92 k0_pay93 k0_pay94 k0_pay95 k0_pay96 k0_pay97 k0_pay98 k0_pay99 k0_pay100 k0_pay101 k0_pay102 k0_pay103 224#32 cx cy cz c2

/-- Register `T` of window `j` in a table. -/
abbrev regRect (j nf : BitVec 32) (hw : k0_chk2 j nf) (hc : k0_cond1 j nf = 1#1) (T : Fin 16) : Rect S8192 :=
  Rect.unit (s := S8192) (k0_off5 j (off16 T)) S16.size (k0_off5_inb j nf hw hc T)

/-- The sixteen masks of window `j` against one centre. -/
def masks (d : Dev nD) (L : grid0.Coords) (cx cy cz c2 : Vec F S16 .f32)
    (fx : Buf (Elt F) ((thr d L).loc cc0_scratch3)) (fy : Buf (Elt F) ((thr d L).loc cc0_scratch4))
    (fz : Buf (Elt F) ((thr d L).loc cc0_scratch5)) (fq : Buf (Elt F) ((thr d L).loc cc0_scratch6))
    (j nf : BitVec 32) (hw : k0_chk2 j nf) (hc : k0_cond1 j nf = 1#1) (T : Fin 16) : IVec S16 1 :=
  maskV cx cy cz c2 (pX.view.readAt (Elt F) (regRect j nf hw hc T).toLoadRect fx) (pY.view.readAt (Elt F) (regRect j nf hw hc T).toLoadRect fy)
    (pZ.view.readAt (Elt F) (regRect j nf hw hc T).toLoadRect fz) (pQ.view.readAt (Elt F) (regRect j nf hw hc T).toLoadRect fq)

/-- An assumption that holds runs as what follows it. -/
theorem wp_assumed (c : Thread nD τ) {P : Prop} {dec : Decidable P} (h : P) {α : Type}
    {k : PLift P → Prog (TpuEff nD τ sig (Elt F) Λ₀ c.2) α} {R : SProp F} {Q : α → SProp F}
    (e : R ⊢ wp frame (wpE (defs₀ (F := F)) 𝒱₀ c none) Set.univ (k ⟨h⟩) Q) :
    R ⊢ wp frame (wpE (defs₀ (F := F)) 𝒱₀ c none) Set.univ (.op (.assume P dec) k) Q := by
  rw [wp_assume_of _ _ _ _ h]; exact e

/-- A conditional whose condition holds runs as its first branch. -/
theorem wp_dif (c : Thread nD τ) {P : Prop} [Decidable P] (h : P) {α : Type}
    {A : P → Prog (TpuEff nD τ sig (Elt F) Λ₀ c.2) α} {B : ¬ P → Prog (TpuEff nD τ sig (Elt F) Λ₀ c.2) α} {R : SProp F} {Q : α → SProp F}
    (e : R ⊢ wp frame (wpE (defs₀ (F := F)) 𝒱₀ c none) Set.univ (A h) Q) : R ⊢ wp frame (wpE (defs₀ (F := F)) 𝒱₀ c none) Set.univ (dite P A B) Q := by
  rw [dif_pos h]; exact e

/-- A conditional whose condition fails runs as its second branch. -/
theorem wp_dif_neg (c : Thread nD τ) {P : Prop} [Decidable P] (h : ¬ P) {α : Type}
    {A : P → Prog (TpuEff nD τ sig (Elt F) Λ₀ c.2) α} {B : ¬ P → Prog (TpuEff nD τ sig (Elt F) Λ₀ c.2) α} {R : SProp F} {Q : α → SProp F}
    (e : R ⊢ wp frame (wpE (defs₀ (F := F)) 𝒱₀ c none) Set.univ (B h) Q) : R ⊢ wp frame (wpE (defs₀ (F := F)) 𝒱₀ c none) Set.univ (dite P A B) Q := by
  rw [dif_neg h]; exact e

theorem trip5_wp (d : Dev nD) (L : grid0.Coords) (cx cy cz c2 : Vec F S16 .f32)
    (fx : Buf (Elt F) ((thr d L).loc cc0_scratch3)) (fy : Buf (Elt F) ((thr d L).loc cc0_scratch4))
    (fz : Buf (Elt F) ((thr d L).loc cc0_scratch5)) (fq : Buf (Elt F) ((thr d L).loc cc0_scratch6))
    (t : Fin k0_t5_loop.trips) (j nf i0 i1 : BitVec 32) (hw : k0_chk2 j nf) (hc : k0_cond1 j nf = 1#1) :
    (iprop((pX.view.loc (thr d L) ↦{fullShare} fx) ∗ (pY.view.loc (thr d L) ↦{fullShare} fy) ∗ (pZ.view.loc (thr d L) ↦{fullShare} fz)
        ∗ (pQ.view.loc (thr d L) ↦{fullShare} fq)) : SProp F)
      ⊢ wp frame (wpE (defs₀ (F := F)) 𝒱₀ (thr d L) none) Set.univ (trip5 L cx cy cz c2 t (j, nf, i0, i1))
          fun st => iprop(⌜st = stepSt (masks d L cx cy cz c2 fx fy fz fq j nf hw hc) (j, nf, i0, i1)⌝
            ∗ (pX.view.loc (thr d L) ↦{fullShare} fx) ∗ (pY.view.loc (thr d L) ↦{fullShare} fy) ∗ (pZ.view.loc (thr d L) ↦{fullShare} fz)
            ∗ (pQ.view.loc (thr d L) ↦{fullShare} fq)) := by
  refine BI.Entails.trans ?_ (wp_assume 𝒱₀ (thr d L) none Set.univ hw)
  refine wp_dif (thr d L) hc ?_
  iintro ⟨Hx, Hy, Hz, Hq⟩
  rw [k0_part1_eq_skeleton]
  unfold k0_part1_skel
  sl_exec
  rw [wp_ret]
  isplitr
  · ipureintro
    unfold trip5_wp.sl.v1040
    rfl
  iframe

end Cert.Proof
-- ==== Proof.Windows.lean ====
/-
  The search of one centre: the loop over the thirty-two windows leaves the first two points nearer than the radius.
-/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- One point against one centre: does it lie nearer than the radius? -/
def hit1 (x y z q px py pz pq : F .f32) : BitVec 1 :=
  FloatOps.cmpf .olt (FloatOps.subf (FloatOps.addf q pq) (FloatOps.mulf (Scalar.ofBits .f32 0x40000000#32)
    (FloatOps.addf (FloatOps.addf (FloatOps.mulf x px) (FloatOps.mulf y py)) (FloatOps.mulf z pz)))) (Scalar.ofBits .f32 0x3C23D70A#32)

/-- The cell of point `n` in a table. -/
def pt (n : ℕ) : S8192.Idx := Shape.ofLane (d := ![8192]) (Fin.ofNat 8192 n)

/-- Point `n` of the tables lies near the centre. -/
def hitAt (x y z q : F .f32) (fx fy fz fq : FVec F S8192 .f32) (n : ℕ) : Prop :=
  hit1 x y z q (fx (pt n)) (fy (pt n)) (fz (pt n)) (fq (pt n)) = 1#1

theorem maskV_lane (cx cy cz c2 px py pz p2 : FVec F S16 .f32) (i : S16.Idx) :
    maskV cx cy cz c2 px py pz p2 i = hit1 (cx i) (cy i) (cz i) (c2 i) (px i) (py i) (pz i) (p2 i) := rfl

theorem masks_lane (d : Dev nD) (L : grid0.Coords) (x y z q : F .f32) (fx fy fz fq : FVec F S8192 .f32) (J : Fin 32) (nf : BitVec 32)
    (hw : k0_chk2 (BitVec.ofNat 32 J.val) nf) (hc : k0_cond1 (BitVec.ofNat 32 J.val) nf = 1#1) (T l : Fin 16) :
    masks d L (fun _ => x) (fun _ => y) (fun _ => z) (fun _ => q) fx fy fz fq (BitVec.ofNat 32 J.val) nf hw hc T (lane l) = 1#1
      ↔ hitAt x y z q fx fy fz fq (256 * J.val + (16 * T.val + l.val)) := by
  have key : ∀ (J : Fin 32) (r : Fin 16), k0_off5 (BitVec.ofNat 32 J.val) (off16 r) 0 = 256 * J.val + 16 * r.val := by decide
  have hi : (regRect (BitVec.ofNat 32 J.val) nf hw hc T).toLoadRect.idx (lane l) = pt (256 * J.val + (16 * T.val + l.val)) := by
    funext a
    obtain rfl : a = 0 := Subsingleton.elim _ _
    apply Fin.ext
    show k0_off5 (BitVec.ofNat 32 J.val) (off16 T) 0 + 1 * l.val = (256 * J.val + (16 * T.val + l.val)) % 8192
    rw [key J T, Nat.mod_eq_of_lt (by omega)]; omega
  unfold hitAt masks
  rw [maskV_lane, ← hi]
  rfl

/-- A trip whose guard fails leaves the state as it was. -/
theorem trip5_skip (d : Dev nD) (L : grid0.Coords) (cx cy cz c2 : Vec F S16 .f32)
    (t : Fin k0_t5_loop.trips) (j nf i0 i1 : BitVec 32) (hw : k0_chk2 j nf) (hc : ¬ k0_cond1 j nf = 1#1)
    {Q : St → SProp F} :
    Q (j, nf, i0, i1) ⊢ wp frame (wpE (defs₀ (F := F)) 𝒱₀ (thr d L) none) Set.univ (trip5 L cx cy cz c2 t (j, nf, i0, i1)) Q := by
  refine BI.Entails.trans ?_ (wp_assume 𝒱₀ (thr d L) none Set.univ hw)
  refine wp_dif_neg (thr d L) hc ?_
  show _ ⊢ wp frame (wpE (defs₀ (F := F)) 𝒱₀ (thr d L) none) Set.univ (.ret (j, nf, i0, i1)) Q
  rw [wp_ret]
  exact fupd_intro

theorem search_wp (d : Dev nD) (L : grid0.Coords) (x y z q : F .f32) (fx fy fz fq : FVec F S8192 .f32) :
    (iprop((pX.view.loc (thr d L) ↦{fullShare} fx) ∗ (pY.view.loc (thr d L) ↦{fullShare} fy) ∗ (pZ.view.loc (thr d L) ↦{fullShare} fz)
        ∗ (pQ.view.loc (thr d L) ↦{fullShare} fq)) : SProp F)
      ⊢ wp frame (wpE (defs₀ (F := F)) 𝒱₀ (thr d L) none) Set.univ
          (Scf.Loop.for k0_t5_loop k0_t5_ok (0#32, 0#32, 0#32, 0#32) (trip5 L (fun _ => x) (fun _ => y) (fun _ => z) (fun _ => q)))
          fun st => iprop(⌜Sought (hitAt x y z q fx fy fz fq) 32 st⌝
            ∗ (pX.view.loc (thr d L) ↦{fullShare} fx) ∗ (pY.view.loc (thr d L) ↦{fullShare} fy) ∗ (pZ.view.loc (thr d L) ↦{fullShare} fz)
            ∗ (pQ.view.loc (thr d L) ↦{fullShare} fq)) := by
  iintro ⟨Hx, Hy, Hz, Hq⟩
  sl_for (fun (t : ℕ) (st : St) => (iprop(⌜Sought (hitAt x y z q fx fy fz fq) t st⌝
            ∗ (pX.view.loc (thr d L) ↦{fullShare} fx) ∗ (pY.view.loc (thr d L) ↦{fullShare} fy) ∗ (pZ.view.loc (thr d L) ↦{fullShare} fz)
            ∗ (pQ.view.loc (thr d L) ↦{fullShare} fq)) : SProp F)) $$ [Hx Hy Hz Hq]
  case region =>
    intro t st
    obtain ⟨j, nf, i0, i1⟩ := st
    have ht : t.val < 32 := lt_of_lt_of_le t.isLt (by decide)
    show _ ⊢ wp frame (wpE (defs₀ (F := F)) 𝒱₀ (thr d L) none) Set.univ
      (trip5 L (fun _ => x) (fun _ => y) (fun _ => z) (fun _ => q) t (j, nf, i0, i1)) _
    iintro ⟨%HS, H⟩
    have hw := off5_inb HS ht
    by_cases hnf : nf = 2#32
    · have hc : ¬ k0_cond1 j nf = 1#1 := fun h => (cond_iff HS ht).mp h hnf
      iapply (trip5_skip d L (fun _ => x) (fun _ => y) (fun _ => z) (fun _ => q) t j nf i0 i1 hw hc)
      isplitr
      · ipureintro; exact HS.stay hnf
      · iexact H
    · have hc : k0_cond1 j nf = 1#1 := (cond_iff HS ht).mpr hnf
      obtain ⟨J, hJ, e, Fd, hor⟩ := id HS
      obtain rfl : J = t.val := hor.resolve_left hnf
      obtain rfl : j = BitVec.ofNat 32 t.val := e
      icases H with ⟨Hx, Hy, Hz, Hq⟩
      iapply (wp_mono _ _ _ ?_) $$ [Hx Hy Hz Hq]
      rotate_left
      · iapply (trip5_wp d L (fun _ => x) (fun _ => y) (fun _ => z) (fun _ => q) fx fy fz fq t _ nf i0 i1 hw hc)
        iframe
      intro st
      iintro ⟨%est, H⟩
      isplitr
      · ipureintro
        rw [est]
        exact HS.step ht hnf fun T l => masks_lane d L x y z q fx fy fz fq ⟨t.val, ht⟩ nf hw hc T l
      · iexact H
  · isplitl [Hx Hy Hz Hq]
    · isplitr
      · ipureintro; exact Sought.zero _
      · iframe
    · iintro %st H
      iexact H

/-- The search at the head of a program, over the centre's four registers, with what else is held. -/
theorem search_then (d : Dev nD) (L : grid0.Coords) {cx cy cz c2 : Vec F S16 .f32} (x y z q : F .f32)
    (hx : cx = fun _ => x) (hy : cy = fun _ => y) (hz : cz = fun _ => z) (hq : c2 = fun _ => q) (fx fy fz fq : FVec F S8192 .f32)
    {α : Type} {k : St → Prog (TpuEff nD τ sig (Elt F) Λ₀ (thr d L).2) α} {R : SProp F} {Q : α → SProp F}
    (e : ∀ st, Sought (hitAt x y z q fx fy fz fq) 32 st → (iprop(((pX.view.loc (thr d L) ↦{fullShare} fx) ∗ (pY.view.loc (thr d L) ↦{fullShare} fy)
        ∗ (pZ.view.loc (thr d L) ↦{fullShare} fz) ∗ (pQ.view.loc (thr d L) ↦{fullShare} fq)) ∗ R) : SProp F)
          ⊢ wp frame (wpE (defs₀ (F := F)) 𝒱₀ (thr d L) none) Set.univ (k st) Q) :
    (iprop(((pX.view.loc (thr d L) ↦{fullShare} fx) ∗ (pY.view.loc (thr d L) ↦{fullShare} fy)
        ∗ (pZ.view.loc (thr d L) ↦{fullShare} fz) ∗ (pQ.view.loc (thr d L) ↦{fullShare} fq)) ∗ R) : SProp F)
      ⊢ wp frame (wpE (defs₀ (F := F)) 𝒱₀ (thr d L) none) Set.univ
          (Scf.Loop.for k0_t5_loop k0_t5_ok (0#32, 0#32, 0#32, 0#32) (trip5 L cx cy cz c2) >>= k) Q := by
  subst hx hy hz hq
  rw [wp_bind]
  refine (sep_mono_left (search_wp d L x y z q fx fy fz fq)).trans ((wp_frame_r _ _ _).trans (wp_mono _ _ _ fun st => ?_))
  iintro ⟨⟨%hs, H⟩, HR⟩
  iapply (e st hs)
  iframe

end Cert.Proof
-- ==== Proof.Centres.lean ====
/-
  One centre, and one register of sixteen centres: the loop over the lanes sets each lane of the two answers.
-/
module

public import proofs.«01_k».proof.Proof.Windows

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The tile's centres: three rounded coordinates and the squared length. -/
abbrev qX : Memref sig .scVector .vmem S128 .f32 := Memref.whole cc0_scratch10
abbrev qY : Memref sig .scVector .vmem S128 .f32 := Memref.whole cc0_scratch11
abbrev qZ : Memref sig .scVector .vmem S128 .f32 := Memref.whole cc0_scratch12
abbrev qQ : Memref sig .scVector .vmem S128 .f32 := Memref.whole cc0_scratch13

/-- The trip of the loop over the lanes of a register of centres, at this launch's buffers. -/
abbrev trip4 (L : grid0.Coords) (w : BitVec 32) :=
  k0_t4_body (F := F) L (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scoped0 cc0_scoped1 cc0_scoped2 cc0_scoped3 cc0_scoped4 cc0_scoped5 cc0_scoped6 cc0_scoped7
    lanes k0_pay90 k0_pay91 k0_pay92 k0_pay93 k0_pay94 k0_pay95 k0_pay96 k0_pay97 k0_pay98 k0_pay99 k0_pay100 k0_pay101 k0_pay102 k0_pay103 224#32 w

/-- The cell of centre `m` of the tile. -/
def ctr (m : ℕ) : S128.Idx := Shape.ofLane (d := ![128]) (Fin.ofNat 128 m)

/-- The first two points near centre `m`. -/
def near (gx gy gz gq : FVec F S128 .f32) (fx fy fz fq : FVec F S8192 .f32) (m : ℕ) : ℕ × ℕ :=
  slots (hitAt (gx (ctr m)) (gy (ctr m)) (gz (ctr m)) (gq (ctr m)) fx fy fz fq) 8192

/-- The lanes below `k` of the two answers of register `g` are the first two points near its centres. -/
def LanesDone (gx gy gz gq : FVec F S128 .f32) (fx fy fz fq : FVec F S8192 .f32) (g k : ℕ) (a : IVec S16 32 × IVec S16 32) : Prop :=
  ∀ l : Fin 16, l.val < k → a.1 (lane l) = BitVec.ofNat 32 (near gx gy gz gq fx fy fz fq (16 * g + l.val)).1
    ∧ a.2 (lane l) = BitVec.ofNat 32 (near gx gy gz gq fx fy fz fq (16 * g + l.val)).2

theorem pay4_lane (k : Fin k0_t4_loop.trips) (l : Fin 16) : k0_pay4 lanes k (lane l) = BitVec.ofBool (decide (l.val = k.val)) := by
  have hk : k.val < 16 := lt_of_lt_of_le k.isLt (by decide)
  have key : ∀ l k : Fin 16, IntOp.cmpi .eq (BitVec.ofNat 32 l.val) (Scf.iv 0#32 1#32 k.val) = BitVec.ofBool (decide (l.val = k.val)) := by decide
  rw [← key l ⟨k.val, hk⟩, ← lanes_lane]
  rfl

theorem lanesDone_step {gx gy gz gq : FVec F S128 .f32} {fx fy fz fq : FVec F S8192 .f32} {g : ℕ} (k : Fin k0_t4_loop.trips)
    {a b : IVec S16 32} {st : St} (H : LanesDone gx gy gz gq fx fy fz fq g k.val (a, b))
    (hs : Sought (hitAt (gx (ctr (16 * g + k.val))) (gy (ctr (16 * g + k.val))) (gz (ctr (16 * g + k.val))) (gq (ctr (16 * g + k.val))) fx fy fz fq) 32 st) :
    LanesDone gx gy gz gq fx fy fz fq g (k.val + 1) (k0_pay5 lanes k a st.2.1 st.2.2.1, k0_pay6 lanes k b st.2.1 st.2.2.1 st.2.2.2) := by
  intro l hl
  obtain ⟨e0, e1⟩ := hs.slots
  have h5 : k0_pay5 lanes k a st.2.1 st.2.2.1 (lane l) = if k0_pay4 lanes k (lane l) = 1#1 then slot0W st.2.1 st.2.2.1 else a (lane l) := rfl
  have h6 : k0_pay6 lanes k b st.2.1 st.2.2.1 st.2.2.2 (lane l) = if k0_pay4 lanes k (lane l) = 1#1 then slot1W st.2.1 st.2.2.1 st.2.2.2 else b (lane l) := rfl
  show k0_pay5 lanes k a st.2.1 st.2.2.1 (lane l) = _ ∧ k0_pay6 lanes k b st.2.1 st.2.2.1 st.2.2.2 (lane l) = _
  rw [h5, h6, pay4_lane]
  by_cases hlk : l.val = k.val
  · simp only [hlk, decide_true, BitVec.ofBool_true, ↓reduceIte]
    exact ⟨e0, e1⟩
  · simp only [hlk, decide_false, BitVec.ofBool_false, show ¬ (0#1 = 1#1) by decide, ↓reduceIte]
    exact H l (by omega)

theorem lanes16_wp (d : Dev nD) (L : grid0.Coords) (gx gy gz gq : FVec F S128 .f32) (fx fy fz fq : FVec F S8192 .f32) (g : Fin k0_t3_loop.trips) :
    (iprop((pX.view.loc (thr d L) ↦{fullShare} fx) ∗ (pY.view.loc (thr d L) ↦{fullShare} fy) ∗ (pZ.view.loc (thr d L) ↦{fullShare} fz)
        ∗ (pQ.view.loc (thr d L) ↦{fullShare} fq) ∗ (qX.view.loc (thr d L) ↦{fullShare} gx) ∗ (qY.view.loc (thr d L) ↦{fullShare} gy)
        ∗ (qZ.view.loc (thr d L) ↦{fullShare} gz) ∗ (qQ.view.loc (thr d L) ↦{fullShare} gq)) : SProp F)
      ⊢ wp frame (wpE (defs₀ (F := F)) 𝒱₀ (thr d L) none) Set.univ
          (Scf.Loop.for k0_t4_loop k0_t4_ok (k0_pay3, k0_pay3) (trip4 L (Scf.iv 0#32 1#32 g)))
          fun a => iprop(⌜LanesDone gx gy gz gq fx fy fz fq g.val 16 a⌝
            ∗ (pX.view.loc (thr d L) ↦{fullShare} fx) ∗ (pY.view.loc (thr d L) ↦{fullShare} fy) ∗ (pZ.view.loc (thr d L) ↦{fullShare} fz)
        ∗ (pQ.view.loc (thr d L) ↦{fullShare} fq) ∗ (qX.view.loc (thr d L) ↦{fullShare} gx) ∗ (qY.view.loc (thr d L) ↦{fullShare} gy)
        ∗ (qZ.view.loc (thr d L) ↦{fullShare} gz) ∗ (qQ.view.loc (thr d L) ↦{fullShare} gq)) := by
  iintro ⟨Hx, Hy, Hz, Hq, Gx, Gy, Gz, Gq⟩
  sl_for (fun (k : ℕ) (a : IVec S16 32 × IVec S16 32) => (iprop(⌜LanesDone gx gy gz gq fx fy fz fq g.val k a⌝
            ∗ (pX.view.loc (thr d L) ↦{fullShare} fx) ∗ (pY.view.loc (thr d L) ↦{fullShare} fy) ∗ (pZ.view.loc (thr d L) ↦{fullShare} fz)
        ∗ (pQ.view.loc (thr d L) ↦{fullShare} fq) ∗ (qX.view.loc (thr d L) ↦{fullShare} gx) ∗ (qY.view.loc (thr d L) ↦{fullShare} gy)
        ∗ (qZ.view.loc (thr d L) ↦{fullShare} gz) ∗ (qQ.view.loc (thr d L) ↦{fullShare} gq)) : SProp F)) $$ [Hx Hy Hz Hq Gx Gy Gz Gq]
  case region =>
    intro k ab
    obtain ⟨a, b⟩ := ab
    have hk : k.val < 16 := lt_of_lt_of_le k.isLt (by decide)
    have hg : g.val < 8 := lt_of_lt_of_le g.isLt (by decide)
    have hwv : ∀ (g : Fin 8) (k : Fin 16), (Scalar.addi (Scalar.muli (Scf.iv 0#32 1#32 g.val) 16#32) (Scf.iv 0#32 1#32 k.val)).toNat = 16 * g.val + k.val := by decide
    have hv := hwv ⟨g.val, hg⟩ ⟨k.val, hk⟩
    have hchk : k0_chk1 (broadcast S16 (Scalar.addi (Scalar.muli (Scf.iv 0#32 1#32 g.val) 16#32) (Scf.iv 0#32 1#32 k.val))) := by
      have h : ∀ a x, ((![broadcast S16 (Scalar.addi (Scalar.muli (Scf.iv 0#32 1#32 g.val) 16#32) (Scf.iv 0#32 1#32 k.val))] : Fin 1 → IVec S16 32) a x).toNat < S128.size a := by
        intro a x
        obtain rfl : a = 0 := Subsingleton.elim _ _
        exact lt_of_eq_of_lt hv (show 16 * g.val + k.val < 128 by omega)
      exact ⟨h, h, h, h⟩
    have hidx : ∀ h : (∀ a x, ((![broadcast S16 (Scalar.addi (Scalar.muli (Scf.iv 0#32 1#32 g.val) 16#32) (Scf.iv 0#32 1#32 k.val))] : Fin 1 → IVec S16 32) a x).toNat < S128.size a),
        ∀ f gx : FVec F S128 .f32, f = gx → loadIdx (F := F) (e := .f32) f _ h = fun _ => gx (ctr (16 * g.val + k.val)) := by
      rintro h f gx rfl
      funext x
      show f (idxAt _ h x) = _
      congr 1
      funext a
      obtain rfl : a = 0 := Subsingleton.elim _ _
      apply Fin.ext
      refine hv.trans ?_
      show _ = (16 * g.val + k.val) % 128
      rw [Nat.mod_eq_of_lt (by omega)]
    show _ ⊢ wp frame (wpE (defs₀ (F := F)) 𝒱₀ (thr d L) none) Set.univ
      (trip4 L (Scf.iv 0#32 1#32 g) k (a, b)) _
    unfold trip4 k0_t4_body SparseCore.vectorLoadIdx
    iintro ⟨%HD, Hx, Hy, Hz, Hq, Gx, Gy, Gz, Gq⟩
    sl_exec
    unfold lanes16_wp.sl.v106
    iapply (search_then d L (gx (ctr (16 * g.val + k.val))) (gy (ctr (16 * g.val + k.val))) (gz (ctr (16 * g.val + k.val))) (gq (ctr (16 * g.val + k.val)))
      (hidx _ _ _ ?_) (hidx _ _ _ ?_) (hidx _ _ _ ?_) (hidx _ _ _ ?_) fx fy fz fq (R := iprop((qX.view.loc (thr d L) ↦{fullShare} gx) ∗ (qY.view.loc (thr d L) ↦{fullShare} gy)
        ∗ (qZ.view.loc (thr d L) ↦{fullShare} gz) ∗ (qQ.view.loc (thr d L) ↦{fullShare} gq))) ?_) $$ [Hx Hy Hz Hq Gx Gy Gz Gq]
    iterate 4 · exact Memref.readAt_whole ..
    rotate_left
    · iframe
    intro st hs
    obtain ⟨s0, s1, s2, s3⟩ := st
    iintro ⟨⟨Hx, Hy, Hz, Hq⟩, Gx, Gy, Gz, Gq⟩
    sl_exec
    rw [wp_ret]
    isplitr
    · ipureintro; exact lanesDone_step (st := (s0, s1, s2, s3)) k HD hs
    · iframe
  · isplitl [Hx Hy Hz Hq Gx Gy Gz Gq]
    · isplitr
      · ipureintro; exact fun l hl => absurd hl (Nat.not_lt_zero _)
      · iframe
    · iintro %st H
      iexact H

end Cert.Proof
-- ==== Proof.Tables.lean ====
/-
  A table filled sixteen elements at a time: what a store of one register leaves, and what a load of one reads.
-/
module

public import proofs.«01_k».proof.Proof.Base
public import proofs.«01_k».proof.Proof.Window
public import Idealize.ShloMosaic.Lib.Writes

@[expose] public section

noncomputable section

namespace Cert.Proof

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A table of `N` elements. -/
abbrev Tbl (N : ℕ) : Shape := ⟨1, ![N]⟩

/-- Its element `m`. -/
abbrev at1 {N : ℕ} (m : Fin N) : (Tbl N).Idx := Shape.ofLane (d := ![N]) m

variable {N : ℕ} {κ : Kind} {sp : Space} {e : EltTy}

/-- The first `k` elements, read through the view, are `P`. -/
def Filled (v : View sig κ sp (Tbl N) e) (P : ℕ → Elt F e) (k : ℕ) (f : v.ty.Contents (Elt F)) : Prop :=
  ∀ m : Fin N, m.val < k → v.read (Elt F) f (at1 m) = P m.val

theorem Filled.zero (v : View sig κ sp (Tbl N) e) (P : ℕ → Elt F e) (f : v.ty.Contents (Elt F)) : Filled v P 0 f :=
  fun _ h => absurd h (Nat.not_lt_zero _)

/-- A register stored after the first `16 * g` elements. -/
theorem Filled.step {v : View sig κ sp (Tbl N) e} {P : ℕ → Elt F e} {g : ℕ} {f : v.ty.Contents (Elt F)} (H : Filled v P (16 * g) f)
    {off : Fin 1 → ℕ} {inb : ∀ a, off a + S16.size a ≤ (Tbl N).size a} (hoff : off = ![16 * g]) {w : S16.Idx → Elt F e}
    (hw : ∀ l : Fin 16, w (lane l) = P (16 * g + l.val)) :
    Filled v P (16 * (g + 1)) (v.writes (Elt F) f [⟨Rect.unit (s := Tbl N) off S16.size inb, w⟩]) := by
  subst hoff
  intro m hm
  by_cases h : m.val < 16 * g
  · rw [View.read_writes_cons_miss_of_axis v f _ _ (at1 m) 0 (16 * g) 16 rfl rfl rfl (.inl h), View.writes_nil]
    exact H m h
  · have hl : m.val - 16 * g < 16 := by omega
    rw [View.read_writes_cons_hit_of_coords v f _ _ _ (lane ⟨m.val - 16 * g, hl⟩) (at1 m) (fun a => by
      obtain rfl : a = 0 := Subsingleton.elim _ _
      show m.val = 16 * g + 1 * (m.val - 16 * g)
      omega), hw]
    congr 1
    show 16 * g + (m.val - 16 * g) = m.val
    omega

/-- A register loaded from after the first `16 * g` elements. -/
theorem readAt16 (v : View sig κ sp (Tbl N) e) (f : v.ty.Contents (Elt F)) {g : ℕ}
    {off : Fin 1 → ℕ} {inb : ∀ a, off a + S16.size a ≤ (Tbl N).size a} (hoff : off = ![16 * g]) (l : Fin 16) (h : 16 * g + l.val < N) :
    v.readAt (Elt F) (Rect.unit (s := Tbl N) off S16.size inb).toLoadRect f (lane l) = v.read (Elt F) f (at1 ⟨16 * g + l.val, h⟩) := by
  subst hoff
  rw [View.readAt_apply]
  congr 1
  funext a
  obtain rfl : a = 0 := Subsingleton.elim _ _
  apply Fin.ext
  show 16 * g + 1 * l.val = _
  rw [Nat.one_mul]; rfl

/-- A run, then what follows it, with what else is held. -/
theorem wp_then (c : Thread nD τ) {α β : Type} {p : Prog (TpuEff nD τ sig (Elt F) Λ₀ c.2) α} {k : α → Prog (TpuEff nD τ sig (Elt F) Λ₀ c.2) β}
    {P R : SProp F} {X : α → SProp F} {Q : β → SProp F} (h : P ⊢ wp frame (wpE (defs₀ (F := F)) 𝒱₀ c none) Set.univ p X)
    (e : ∀ a, iprop(X a ∗ R) ⊢ wp frame (wpE (defs₀ (F := F)) 𝒱₀ c none) Set.univ (k a) Q) :
    iprop(P ∗ R) ⊢ wp frame (wpE (defs₀ (F := F)) 𝒱₀ c none) Set.univ (p >>= k) Q := by
  rw [wp_bind]
  exact (sep_mono_left h).trans ((wp_frame_r _ _ _).trans (wp_mono _ _ _ e))

end Cert.Proof
-- ==== Proof.Groups.lean ====
/-
  The loop over the registers of centres: it fills the two tables of answers sixteen at a time.
-/
module

public import proofs.«01_k».proof.Proof.Centres
public import proofs.«01_k».proof.Proof.Tables

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The two tables of answers. -/
abbrev oA : Memref sig .scVector .vmem S128 .i32 := Memref.whole cc0_scratch14
abbrev oB : Memref sig .scVector .vmem S128 .i32 := Memref.whole cc0_scratch15

/-- The trip of the loop over the registers of centres, at this launch's buffers. -/
abbrev trip3 (L : grid0.Coords) :=
  k0_t3_body (F := F) L (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scoped0 cc0_scoped1 cc0_scoped2 cc0_scoped3 cc0_scoped4 cc0_scoped5 cc0_scoped6 cc0_scoped7
    lanes k0_pay90 k0_pay91 k0_pay92 k0_pay93 k0_pay94 k0_pay95 k0_pay96 k0_pay97 k0_pay98 k0_pay99 k0_pay100 k0_pay101 k0_pay102 k0_pay103 224#32

/-- What the tables of answers hold in the end. -/
def ans0 (gx gy gz gq : FVec F S128 .f32) (fx fy fz fq : FVec F S8192 .f32) (m : ℕ) : BitVec 32 := BitVec.ofNat 32 (near gx gy gz gq fx fy fz fq m).1
def ans1 (gx gy gz gq : FVec F S128 .f32) (fx fy fz fq : FVec F S8192 .f32) (m : ℕ) : BitVec 32 := BitVec.ofNat 32 (near gx gy gz gq fx fy fz fq m).2

/-- The tables that the search reads. -/
abbrev tables (d : Dev nD) (L : grid0.Coords) (gx gy gz gq : FVec F S128 .f32) (fx fy fz fq : FVec F S8192 .f32) : SProp F :=
  iprop((pX.view.loc (thr d L) ↦{fullShare} fx) ∗ (pY.view.loc (thr d L) ↦{fullShare} fy) ∗ (pZ.view.loc (thr d L) ↦{fullShare} fz)
        ∗ (pQ.view.loc (thr d L) ↦{fullShare} fq) ∗ (qX.view.loc (thr d L) ↦{fullShare} gx) ∗ (qY.view.loc (thr d L) ↦{fullShare} gy)
        ∗ (qZ.view.loc (thr d L) ↦{fullShare} gz) ∗ (qQ.view.loc (thr d L) ↦{fullShare} gq))

/-- Before register `g`: the first `16 * g` answers are there. -/
def inv3 (d : Dev nD) (L : grid0.Coords) (gx gy gz gq : FVec F S128 .f32) (fx fy fz fq : FVec F S8192 .f32) (g : ℕ) (_ : BitVec 32) : SProp F :=
  iprop(tables d L gx gy gz gq fx fy fz fq
    ∗ (∃ fa, ⌜Filled (F := F) oA.view (ans0 gx gy gz gq fx fy fz fq) (16 * g) fa⌝ ∗ (oA.view.loc (thr d L) ↦{fullShare} fa))
    ∗ (∃ fb, ⌜Filled (F := F) oB.view (ans1 gx gy gz gq fx fy fz fq) (16 * g) fb⌝ ∗ (oB.view.loc (thr d L) ↦{fullShare} fb)))

theorem trip3_wp (d : Dev nD) (L : grid0.Coords) (gx gy gz gq : FVec F S128 .f32) (fx fy fz fq : FVec F S8192 .f32) (g : Fin k0_t3_loop.trips) (w : BitVec 32) :
    inv3 d L gx gy gz gq fx fy fz fq g.val w ⊢ wp frame (wpE (defs₀ (F := F)) 𝒱₀ (thr d L) none) Set.univ (trip3 L g w)
      (inv3 d L gx gy gz gq fx fy fz fq (g.val + 1)) := by
  unfold inv3
  refine wp_then (thr d L) (lanes16_wp d L gx gy gz gq fx fy fz fq g) fun a => ?_
  obtain ⟨a, b⟩ := a
  iintro ⟨⟨%HD, T⟩, ⟨%fa, %Ha, A⟩, ⟨%fb, %Hb, B⟩⟩
  sl_exec
  rw [wp_ret]
  imodintro
  isplitl [T]; · iexact T
  isplitl [A]
  · iexists _
    isplitr
    rotate_left
    · iexact A
    · ipureintro; exact Ha.step (k0_off6_eq g) fun l => (HD l l.isLt).1
  · iexists _
    isplitr
    rotate_left
    · iexact B
    · ipureintro; exact Hb.step (k0_off6_eq g) fun l => (HD l l.isLt).2

theorem groups_wp (d : Dev nD) (L : grid0.Coords) (gx gy gz gq : FVec F S128 .f32) (fx fy fz fq : FVec F S8192 .f32) :
    inv3 d L gx gy gz gq fx fy fz fq 0 0#32 ⊢ wp frame (wpE (defs₀ (F := F)) 𝒱₀ (thr d L) none) Set.univ
      (Scf.Loop.for k0_t3_loop k0_t3_ok 0#32 (trip3 L)) (inv3 d L gx gy gz gq fx fy fz fq 8) := by
  iintro H
  sl_for (inv3 d L gx gy gz gq fx fy fz fq) $$ [H]
  case region => exact fun g w => trip3_wp d L gx gy gz gq fx fy fz fq g w
  · isplitl [H]
    · iexact H
    · iintro %w H
      iexact H

end Cert.Proof
-- ==== Proof.Squares.lean ====
/-
  The tables made before the search: each coordinate rounded, and each point's squared length.
-/
module

public import proofs.«01_k».proof.Proof.Centres
public import proofs.«01_k».proof.Proof.Tables

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- A coordinate rounded to bf16 and widened again. -/
def rnd1 (x : F .f32) : F .f32 := FloatOps.extf .f32 bitsLt_bf16_f32 (FloatOps.truncf .bf16 bitsLt_bf16_f32 x)

/-- The squared length of a point. -/
def sq1 (x y z : F .f32) : F .f32 := FloatOps.addf (FloatOps.addf (FloatOps.mulf x x) (FloatOps.mulf y y)) (FloatOps.mulf z z)

/-- The raw coordinates of the points and of the tile's centres. -/
abbrev hX : Memref sig .scVector .vmem S8192 .f32 := Memref.whole cc0_scratch0
abbrev hY : Memref sig .scVector .vmem S8192 .f32 := Memref.whole cc0_scratch1
abbrev hZ : Memref sig .scVector .vmem S8192 .f32 := Memref.whole cc0_scratch2
abbrev xX : Memref sig .scVector .vmem S128 .f32 := Memref.whole cc0_scratch7
abbrev xY : Memref sig .scVector .vmem S128 .f32 := Memref.whole cc0_scratch8
abbrev xZ : Memref sig .scVector .vmem S128 .f32 := Memref.whole cc0_scratch9

/-- The trip of the loop that makes the points' tables. -/
abbrev trip1 (L : grid0.Coords) :=
  k0_t1_body (F := F) L (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scoped0 cc0_scoped1 cc0_scoped2 cc0_scoped3 cc0_scoped4 cc0_scoped5 cc0_scoped6 cc0_scoped7

/-- Before trip `g`: the first `16 * g` elements of the four tables are made. -/
def inv1 (d : Dev nD) (L : grid0.Coords) (x y z : FVec F S8192 .f32) (g : ℕ) (_ : BitVec 32) : SProp F :=
  iprop((hX.view.loc (thr d L) ↦{fullShare} x) ∗ (hY.view.loc (thr d L) ↦{fullShare} y) ∗ (hZ.view.loc (thr d L) ↦{fullShare} z)
    ∗ (∃ f, ⌜Filled (F := F) pX.view (fun m => rnd1 (x (pt m))) (16 * g) f⌝ ∗ (pX.view.loc (thr d L) ↦{fullShare} f))
    ∗ (∃ f, ⌜Filled (F := F) pY.view (fun m => rnd1 (y (pt m))) (16 * g) f⌝ ∗ (pY.view.loc (thr d L) ↦{fullShare} f))
    ∗ (∃ f, ⌜Filled (F := F) pZ.view (fun m => rnd1 (z (pt m))) (16 * g) f⌝ ∗ (pZ.view.loc (thr d L) ↦{fullShare} f))
    ∗ (∃ f, ⌜Filled (F := F) pQ.view (fun m => sq1 (x (pt m)) (y (pt m)) (z (pt m))) (16 * g) f⌝ ∗ (pQ.view.loc (thr d L) ↦{fullShare} f)))

theorem trip1_wp (d : Dev nD) (L : grid0.Coords) (x y z : FVec F S8192 .f32) (g : Fin k0_t1_loop.trips) (w : BitVec 32) :
    inv1 d L x y z g.val w ⊢ wp frame (wpE (defs₀ (F := F)) 𝒱₀ (thr d L) none) Set.univ (trip1 L g w)
      (inv1 d L x y z (g.val + 1)) := by
  have hg : g.val < 512 := lt_of_lt_of_le g.isLt (by decide)
  have hr : ∀ (b : Memref sig .scVector .vmem S8192 .f32) (f : b.view.ty.Contents (Elt F)) (l : Fin 16),
      b.view.readAt (Elt F) (Rect.unit (s := S8192) (k0_off3 g) S16.size (k0_off3_inb g)).toLoadRect f (lane l) = b.view.read (Elt F) f (pt (16 * g.val + l.val)) := by
    intro b f l
    refine (readAt16 b.view f (k0_off3_eq g) l (by omega)).trans (congrArg _ ?_)
    funext a
    obtain rfl : a = 0 := Subsingleton.elim _ _
    exact Fin.ext (Nat.mod_eq_of_lt (show 16 * g.val + l.val < 8192 by omega)).symm
  unfold inv1
  iintro ⟨X, Y, Z, ⟨%f0, %H0, A0⟩, ⟨%f1, %H1, A1⟩, ⟨%f2, %H2, A2⟩, ⟨%f3, %H3, A3⟩⟩
  sl_exec
  rw [wp_ret]
  imodintro
  isplitl [X]; · iexact X
  isplitl [Y]; · iexact Y
  isplitl [Z]; · iexact Z
  isplitl [A0]
  · iexists _
    isplitr
    rotate_left
    · iexact A0
    · ipureintro; exact H0.step (k0_off3_eq g) fun l => congrArg rnd1 (hr hX x l)
  isplitl [A1]
  · iexists _
    isplitr
    rotate_left
    · iexact A1
    · ipureintro; exact H1.step (k0_off3_eq g) fun l => congrArg rnd1 (hr hY y l)
  isplitl [A2]
  · iexists _
    isplitr
    rotate_left
    · iexact A2
    · ipureintro; exact H2.step (k0_off3_eq g) fun l => congrArg rnd1 (hr hZ z l)
  · iexists _
    isplitr
    rotate_left
    · iexact A3
    · ipureintro
      refine H3.step (k0_off3_eq g) fun l => ?_
      show sq1 _ _ _ = sq1 _ _ _
      rw [hr hX x l, hr hY y l, hr hZ z l]
      rfl

/-- The trip of the loop that makes the centres' tables. -/
abbrev trip2 (L : grid0.Coords) :=
  k0_t2_body (F := F) L (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scoped0 cc0_scoped1 cc0_scoped2 cc0_scoped3 cc0_scoped4 cc0_scoped5 cc0_scoped6 cc0_scoped7

/-- Before trip `g`: the first `16 * g` elements of the four tables are made. -/
def inv2 (d : Dev nD) (L : grid0.Coords) (x y z : FVec F S128 .f32) (g : ℕ) (_ : BitVec 32) : SProp F :=
  iprop((xX.view.loc (thr d L) ↦{fullShare} x) ∗ (xY.view.loc (thr d L) ↦{fullShare} y) ∗ (xZ.view.loc (thr d L) ↦{fullShare} z)
    ∗ (∃ f, ⌜Filled (F := F) qX.view (fun m => rnd1 (x (ctr m))) (16 * g) f⌝ ∗ (qX.view.loc (thr d L) ↦{fullShare} f))
    ∗ (∃ f, ⌜Filled (F := F) qY.view (fun m => rnd1 (y (ctr m))) (16 * g) f⌝ ∗ (qY.view.loc (thr d L) ↦{fullShare} f))
    ∗ (∃ f, ⌜Filled (F := F) qZ.view (fun m => rnd1 (z (ctr m))) (16 * g) f⌝ ∗ (qZ.view.loc (thr d L) ↦{fullShare} f))
    ∗ (∃ f, ⌜Filled (F := F) qQ.view (fun m => sq1 (x (ctr m)) (y (ctr m)) (z (ctr m))) (16 * g) f⌝ ∗ (qQ.view.loc (thr d L) ↦{fullShare} f)))

theorem trip2_wp (d : Dev nD) (L : grid0.Coords) (x y z : FVec F S128 .f32) (g : Fin k0_t2_loop.trips) (w : BitVec 32) :
    inv2 d L x y z g.val w ⊢ wp frame (wpE (defs₀ (F := F)) 𝒱₀ (thr d L) none) Set.univ (trip2 L g w)
      (inv2 d L x y z (g.val + 1)) := by
  have hg : g.val < 8 := lt_of_lt_of_le g.isLt (by decide)
  have hr : ∀ (b : Memref sig .scVector .vmem S128 .f32) (f : b.view.ty.Contents (Elt F)) (l : Fin 16),
      b.view.readAt (Elt F) (Rect.unit (s := S128) (k0_off4 g) S16.size (k0_off4_inb g)).toLoadRect f (lane l) = b.view.read (Elt F) f (ctr (16 * g.val + l.val)) := by
    intro b f l
    refine (readAt16 b.view f (k0_off4_eq g) l (by omega)).trans (congrArg _ ?_)
    funext a
    obtain rfl : a = 0 := Subsingleton.elim _ _
    exact Fin.ext (Nat.mod_eq_of_lt (show 16 * g.val + l.val < 128 by omega)).symm
  unfold inv2
  iintro ⟨X, Y, Z, ⟨%f0, %H0, A0⟩, ⟨%f1, %H1, A1⟩, ⟨%f2, %H2, A2⟩, ⟨%f3, %H3, A3⟩⟩
  sl_exec
  rw [wp_ret]
  imodintro
  isplitl [X]; · iexact X
  isplitl [Y]; · iexact Y
  isplitl [Z]; · iexact Z
  isplitl [A0]
  · iexists _
    isplitr
    rotate_left
    · iexact A0
    · ipureintro; exact H0.step (k0_off4_eq g) fun l => congrArg rnd1 (hr xX x l)
  isplitl [A1]
  · iexists _
    isplitr
    rotate_left
    · iexact A1
    · ipureintro; exact H1.step (k0_off4_eq g) fun l => congrArg rnd1 (hr xY y l)
  isplitl [A2]
  · iexists _
    isplitr
    rotate_left
    · iexact A2
    · ipureintro; exact H2.step (k0_off4_eq g) fun l => congrArg rnd1 (hr xZ z l)
  · iexists _
    isplitr
    rotate_left
    · iexact A3
    · ipureintro
      refine H3.step (k0_off4_eq g) fun l => ?_
      show sq1 _ _ _ = sq1 _ _ _
      rw [hr xX x l, hr xY y l, hr xZ z l]
      rfl

end Cert.Proof
-- ==== Proof.TilePre.lean ====
/-
  What a tile reads and what it answers, in terms of the arrays of the launch.
-/
module

public import proofs.«01_k».proof.Proof.Groups
public import proofs.«01_k».proof.Proof.Squares

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The arrays of the launch, as a tile names them: the centres' planes, the points' planes, the two rows of answers. -/
abbrev aC : Memref sig .scVector .hbm S12288 .f32 := Memref.whole main_v1_scv
abbrev aP : Memref sig .scVector .hbm S49152 .f32 := Memref.whole main_v3_scv
abbrev aA : Memref sig .scVector .hbm S4096 .i32 := Memref.whole main_v4_0_scv
abbrev aB : Memref sig .scVector .hbm S4096 .i32 := Memref.whole main_v4_1_scv

/-- A tile's 128 values of one coordinate of the centres, and its batch's 8192 of one coordinate of the points. -/
abbrev cSl (L : grid0.Coords) (r : Fin 3) : Memref sig .scVector .hbm S128 .f32 :=
  aC.slice (Rect.unit (s := S12288) (k0_off2 L (BitVec.ofNat 32 r.val)) S128.size (k0_off2_inb L r)) (fun _ => rfl)
abbrev pSl (L : grid0.Coords) (r : Fin 3) : Memref sig .scVector .hbm S8192 .f32 :=
  aP.slice (Rect.unit (s := S49152) (k0_off1 L (BitVec.ofNat 32 r.val)) S8192.size (k0_off1_inb L r)) (fun _ => rfl)
abbrev aASl (L : grid0.Coords) : Memref sig .scVector .hbm S128 .i32 :=
  aA.slice (Rect.unit (s := S4096) (k0_off7 L) S128.size (k0_off7_inb L)) (fun _ => rfl)
abbrev aBSl (L : grid0.Coords) : Memref sig .scVector .hbm S128 .i32 :=
  aB.slice (Rect.unit (s := S4096) (k0_off7 L) S128.size (k0_off7_inb L)) (fun _ => rfl)

/-- The coordinates as the tile's copies bring them. -/
def cen (L : grid0.Coords) (r : Fin 3) (fc : FVec F S12288 .f32) : FVec F S128 .f32 := (cSl L r).view.read (Elt F) fc
def pts (L : grid0.Coords) (r : Fin 3) (fp : FVec F S49152 .f32) : FVec F S8192 .f32 := (pSl L r).view.read (Elt F) fp

/-- The number of the tile's batch, and of its first centre within the batch. -/
def bT (L : grid0.Coords) : ℕ := (2 * (L 1).val + (L 0).val) / 16
def mT (L : grid0.Coords) : ℕ := (2 * (L 1).val + (L 0).val) % 16 * 128

/-- The tile at `(c, s)`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a
  match a with
  | 0 => rfl
  | 1 => rfl

theorem off1_all : ∀ (c : Fin 2) (s : Fin 16) (r : Fin 3),
    k0_off1 (coordsV c s) (BitVec.ofNat 32 r.val) = ![(3 * ((2 * s.val + c.val) / 16) + r.val) * 8192] := by decide
theorem off2_all : ∀ (c : Fin 2) (s : Fin 16) (r : Fin 3),
    k0_off2 (coordsV c s) (BitVec.ofNat 32 r.val) = ![(3 * ((2 * s.val + c.val) / 16) + r.val) * 2048 + (2 * s.val + c.val) % 16 * 128] := by decide
theorem off7_all : ∀ (c : Fin 2) (s : Fin 16), k0_off7 (coordsV c s) = ![128 * (2 * s.val + c.val)] := by decide

theorem off1_eq (L : grid0.Coords) (r : Fin 3) : k0_off1 L (BitVec.ofNat 32 r.val) = ![(3 * bT L + r.val) * 8192] := by
  have h := off1_all (L 0) (L 1) r
  rwa [coordsV_eta] at h
theorem off2_eq (L : grid0.Coords) (r : Fin 3) : k0_off2 L (BitVec.ofNat 32 r.val) = ![(3 * bT L + r.val) * 2048 + mT L] := by
  have h := off2_all (L 0) (L 1) r
  rwa [coordsV_eta] at h
theorem off7_eq (L : grid0.Coords) : k0_off7 L = ![128 * (2 * (L 1).val + (L 0).val)] := by
  have h := off7_all (L 0) (L 1)
  rwa [coordsV_eta] at h

/-- Coordinate `r` of centre `n` of batch `b`, and of point `p`, in the planes. -/
def cenAt (fc : FVec F S12288 .f32) (b n r : ℕ) : F .f32 := fc (at1 (Fin.ofNat 12288 ((3 * b + r) * 2048 + n)))
def ptAt (fp : FVec F S49152 .f32) (b p r : ℕ) : F .f32 := fp (at1 (Fin.ofNat 49152 ((3 * b + r) * 8192 + p)))

theorem bT_lt (L : grid0.Coords) : bT L < 2 := by
  have h0 : (L 0).val < 2 := (L 0).isLt
  have h1 : (L 1).val < 16 := (L 1).isLt
  unfold bT; omega
theorem mT_lt (L : grid0.Coords) : mT L + 128 ≤ 2048 := by unfold mT; omega

theorem cen_at (L : grid0.Coords) (r : Fin 3) (fc : FVec F S12288 .f32) {m : ℕ} (hm : m < 128) :
    cen L r fc (ctr m) = cenAt fc (bT L) (mT L + m) r.val := by
  have hb := bT_lt L
  have hM := mT_lt L
  unfold cen cenAt
  refine (View.read_apply _ _).trans ((cast_eq _ _).trans (congrArg fc ?_))
  refine funext fun (a : Fin 1) => ?_
  obtain rfl : a = 0 := Subsingleton.elim _ _
  apply Fin.ext
  show k0_off2 L (BitVec.ofNat 32 r.val) 0 + 1 * (m % 128) = ((3 * bT L + r.val) * 2048 + (mT L + m)) % 12288
  rw [off2_eq]
  show (3 * bT L + r.val) * 2048 + mT L + 1 * (m % 128) = _
  omega

theorem pts_at (L : grid0.Coords) (r : Fin 3) (fp : FVec F S49152 .f32) {p : ℕ} (hp : p < 8192) :
    pts L r fp (pt p) = ptAt fp (bT L) p r.val := by
  have hb := bT_lt L
  unfold pts ptAt
  refine (View.read_apply _ _).trans ((cast_eq _ _).trans (congrArg fp ?_))
  refine funext fun (a : Fin 1) => ?_
  obtain rfl : a = 0 := Subsingleton.elim _ _
  apply Fin.ext
  show k0_off1 L (BitVec.ofNat 32 r.val) 0 + 1 * (p % 8192) = ((3 * bT L + r.val) * 8192 + p) % 49152
  rw [off1_eq]
  show (3 * bT L + r.val) * 8192 + 1 * (p % 8192) = _
  omega

/-- Point `p` of batch `b` lies near centre `n`. -/
def hitG (fc : FVec F S12288 .f32) (fp : FVec F S49152 .f32) (b n p : ℕ) : Prop :=
  hit1 (rnd1 (cenAt fc b n 0)) (rnd1 (cenAt fc b n 1)) (rnd1 (cenAt fc b n 2)) (sq1 (cenAt fc b n 0) (cenAt fc b n 1) (cenAt fc b n 2))
    (rnd1 (ptAt fp b p 0)) (rnd1 (ptAt fp b p 1)) (rnd1 (ptAt fp b p 2)) (sq1 (ptAt fp b p 0) (ptAt fp b p 1) (ptAt fp b p 2)) = 1#1

/-- The two rows of answers: of centre `n` of batch `b` at position `2048 b + n`. -/
def rowA (fc : FVec F S12288 .f32) (fp : FVec F S49152 .f32) : IVec S4096 32 := fun i =>
  BitVec.ofNat 32 (slots (hitG fc fp ((i 0).val / 2048) ((i 0).val % 2048)) 8192).1
def rowB (fc : FVec F S12288 .f32) (fp : FVec F S49152 .f32) : IVec S4096 32 := fun i =>
  BitVec.ofNat 32 (slots (hitG fc fp ((i 0).val / 2048) ((i 0).val % 2048)) 8192).2

/-- What a tile finds for its centre `m` is the answer for that centre of its batch. -/
theorem near_eq (L : grid0.Coords) (fc : FVec F S12288 .f32) (fp : FVec F S49152 .f32) {m : ℕ} (hm : m < 128) :
    near (fun i => rnd1 (cen L 0 fc i)) (fun i => rnd1 (cen L 1 fc i)) (fun i => rnd1 (cen L 2 fc i))
        (fun i => sq1 (cen L 0 fc i) (cen L 1 fc i) (cen L 2 fc i))
        (fun i => rnd1 (pts L 0 fp i)) (fun i => rnd1 (pts L 1 fp i)) (fun i => rnd1 (pts L 2 fp i))
        (fun i => sq1 (pts L 0 fp i) (pts L 1 fp i) (pts L 2 fp i)) m
      = slots (hitG fc fp (bT L) (mT L + m)) 8192 := by
  unfold near
  refine slots_congr fun p hp => ?_
  unfold hitAt hitG
  simp only [cen_at L _ fc hm, pts_at L _ fp hp]
  exact Iff.rfl

end Cert.Proof
-- ==== Proof.Tile.lean ====
/-
  One tile's whole run: it copies its centres and its batch's points in, makes the tables, searches, and copies the two
  rows of answers out.
-/
module

public import proofs.«01_k».proof.Proof.TilePre

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The tile's program at this launch's buffers. -/
abbrev tileProg (L : grid0.Coords) := cc0__sc_body (F := F) L (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scoped0 cc0_scoped1 cc0_scoped2 cc0_scoped3 cc0_scoped4 cc0_scoped5 cc0_scoped6 cc0_scoped7

/-- A tile's own buffers, at whatever they hold, and its semaphores at zero. -/
abbrev tileBufs (d : Dev nD) (L : grid0.Coords) : SProp F :=
  iprop((∃ f, hX.view.loc (thr d L) ↦{fullShare} f) ∗ (∃ f, hY.view.loc (thr d L) ↦{fullShare} f) ∗ (∃ f, hZ.view.loc (thr d L) ↦{fullShare} f) ∗ (∃ f, pX.view.loc (thr d L) ↦{fullShare} f) ∗ (∃ f, pY.view.loc (thr d L) ↦{fullShare} f) ∗ (∃ f, pZ.view.loc (thr d L) ↦{fullShare} f) ∗ (∃ f, pQ.view.loc (thr d L) ↦{fullShare} f) ∗ (∃ f, xX.view.loc (thr d L) ↦{fullShare} f) ∗ (∃ f, xY.view.loc (thr d L) ↦{fullShare} f) ∗ (∃ f, xZ.view.loc (thr d L) ↦{fullShare} f) ∗ (∃ f, qX.view.loc (thr d L) ↦{fullShare} f) ∗ (∃ f, qY.view.loc (thr d L) ↦{fullShare} f) ∗ (∃ f, qZ.view.loc (thr d L) ↦{fullShare} f) ∗ (∃ f, qQ.view.loc (thr d L) ↦{fullShare} f) ∗ (∃ f, oA.view.loc (thr d L) ↦{fullShare} f) ∗ (∃ f, oB.view.loc (thr d L) ↦{fullShare} f))
abbrev tileSems (d : Dev nD) (L : grid0.Coords) : SProp F :=
  iprop(semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0)

/-- A table filled throughout is what fills it. -/
theorem Filled.read {κ : Kind} {sp : Space} {e : EltTy} {N : ℕ} {v : View sig κ sp (Tbl N) e} {P : ℕ → Elt F e} {f : v.ty.Contents (Elt F)} (H : Filled v P N f) :
    v.read (Elt F) f = fun i => P (i 0).val := by
  funext i
  have h := H (i 0) (i 0).isLt
  have hi : at1 (i 0) = i := by
    refine funext fun (a : Fin 1) => ?_
    obtain rfl : a = 0 := Subsingleton.elim _ _
    exact Fin.ext rfl
  exact (congrArg _ hi.symm).trans h

theorem pt_val (i : S8192.Idx) : pt (i 0).val = i := by
  refine funext fun (a : Fin 1) => ?_
  obtain rfl : a = 0 := Subsingleton.elim _ _
  exact Fin.ext (Nat.mod_eq_of_lt (i 0).isLt)
theorem ctr_val (i : S128.Idx) : ctr (i 0).val = i := by
  refine funext fun (a : Fin 1) => ?_
  obtain rfl : a = 0 := Subsingleton.elim _ _
  exact Fin.ext (Nat.mod_eq_of_lt (i 0).isLt)

theorem filled_pt {v : View sig .scVector .vmem S8192 .f32} {G : FVec F S8192 .f32} {f : v.ty.Contents (Elt F)} (H : Filled v (fun m => G (pt m)) 8192 f) :
    v.read (Elt F) f = G := (Filled.read H).trans (funext fun i => congrArg G (pt_val i))
theorem filled_ctr {v : View sig .scVector .vmem S128 .f32} {G : FVec F S128 .f32} {f : v.ty.Contents (Elt F)} (H : Filled v (fun m => G (ctr m)) 128 f) :
    v.read (Elt F) f = G := (Filled.read H).trans (funext fun i => congrArg G (ctr_val i))

/-- What a tile's 128 answers are in the row of all answers: those of its own positions. -/
theorem landedA (L : grid0.Coords) (ga G : IVec S4096 32) (w : S128.Idx → BitVec 32)
    (h : ∀ m : Fin 128, w (at1 m) = G (at1 ⟨128 * (2 * (L 1).val + (L 0).val) + m.val, by
      have h0 : (L 0).val < 2 := (L 0).isLt
      have h1 : (L 1).val < 16 := (L 1).isLt
      omega⟩)) :
    ∀ i ∈ (aASl L).view.set, (aASl L).view.writes (Elt F) ga [⟨Rect.whole S128, w⟩] i = G i := by
  intro i hi
  obtain ⟨j, -, rfl⟩ := Finset.mem_map.mp hi
  have hj : at1 (j 0) = j := by
    refine funext fun (a : Fin 1) => ?_
    obtain rfl : a = 0 := Subsingleton.elim _ _
    exact Fin.ext rfl
  have e := (View.read_writes_cons_emb (aASl L).view (Val := Elt F) ga (Rect.whole S128) w [] j)
  rw [Rect.emb_whole_apply] at e
  refine ((View.read_apply _ _).trans (cast_eq _ _)).symm.trans (e.trans ((congrArg w hj).symm.trans ((h (j 0)).trans (congrArg G ?_))))
  refine funext fun (a : Fin 1) => ?_
  obtain rfl : a = 0 := Subsingleton.elim _ _
  apply Fin.ext
  show 128 * (2 * (L 1).val + (L 0).val) + (j 0).val = k0_off7 L 0 + 1 * (j 0).val
  rw [off7_eq, Nat.one_mul]; rfl

theorem landedB (L : grid0.Coords) (ga G : IVec S4096 32) (w : S128.Idx → BitVec 32)
    (h : ∀ m : Fin 128, w (at1 m) = G (at1 ⟨128 * (2 * (L 1).val + (L 0).val) + m.val, by
      have h0 : (L 0).val < 2 := (L 0).isLt
      have h1 : (L 1).val < 16 := (L 1).isLt
      omega⟩)) :
    ∀ i ∈ (aBSl L).view.set, (aBSl L).view.writes (Elt F) ga [⟨Rect.whole S128, w⟩] i = G i := by
  intro i hi
  obtain ⟨j, -, rfl⟩ := Finset.mem_map.mp hi
  have hj : at1 (j 0) = j := by
    refine funext fun (a : Fin 1) => ?_
    obtain rfl : a = 0 := Subsingleton.elim _ _
    exact Fin.ext rfl
  have e := (View.read_writes_cons_emb (aBSl L).view (Val := Elt F) ga (Rect.whole S128) w [] j)
  rw [Rect.emb_whole_apply] at e
  refine ((View.read_apply _ _).trans (cast_eq _ _)).symm.trans (e.trans ((congrArg w hj).symm.trans ((h (j 0)).trans (congrArg G ?_))))
  refine funext fun (a : Fin 1) => ?_
  obtain rfl : a = 0 := Subsingleton.elim _ _
  apply Fin.ext
  show 128 * (2 * (L 1).val + (L 0).val) + (j 0).val = k0_off7 L 0 + 1 * (j 0).val
  rw [off7_eq, Nat.one_mul]; rfl

set_option maxHeartbeats 4000000 in
theorem tile_run (d : Dev nD) (L : grid0.Coords) (q : PosShare TreeShare) (fc : FVec F S12288 .f32) (fp : FVec F S49152 .f32)
    (ga gb : IVec S4096 32) (O : CellTallies nD τ sig (HIx 1)) (W : Waits sig (HIx 1)) (hO : ∀ g, O g none = 0) :
    iprop(levAts (K (F := F)).L (K (F := F)).lev
        ∗ ((aC.view.loc (thr d L) ↦{q} fc) ∗ (aP.view.loc (thr d L) ↦{q} fp)
          ∗ ((aASl L).view.loc (thr d L) ↦[(aASl L).view.set]{fullShare} ga) ∗ ((aBSl L).view.loc (thr d L) ↦[(aBSl L).view.set]{fullShare} gb))
        ∗ tileBufs d L ∗ tileSems d L ∗ owes (thr d L) O W)
      ⊢ wp frame (wpE (defs₀ (F := F)) 𝒱₀ (thr d L) none) Set.univ (tileProg L)
          fun _ => iprop(((aC.view.loc (thr d L) ↦{q} fc) ∗ (aP.view.loc (thr d L) ↦{q} fp)
            ∗ ((aASl L).view.loc (thr d L) ↦[(aASl L).view.set]{fullShare} rowA fc fp) ∗ ((aBSl L).view.loc (thr d L) ↦[(aBSl L).view.set]{fullShare} rowB fc fp))
            ∗ tileBufs d L ∗ tileSems d L ∗ ∃ W', ⌜∀ p ∈ W', p ∈ W ∨ p.2 = none⌝ ∗ owes (thr d L) O W') := by
  unfold tileProg
  rw [cc0__sc_body_eq_skeleton]
  unfold cc0__sc_body_skel
  rw [k0_part20_eq_skeleton, k0_part21_eq_skeleton, k0_part22_eq_skeleton]
  unfold k0_part20_skel k0_part21_skel k0_part22_skel
  iintro ⟨#Hlv, ⟨C, P, A, B⟩, ⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s14, S14⟩, ⟨%s15, S15⟩⟩, ⟨D0, D1, D2, D3, D4, D5, D6, D7⟩, HO⟩
  ihave Hmw := ((K (F := F)).mayWaits_none (thr := thr d L) hO) $$ Hlv
  sl_exec
  rw [wp_bind]
  sl_for (inv1 d L (pts L 0 fp) (pts L 1 fp) (pts L 2 fp)) $$ [S0 S1 S2 S3 S4 S5 S6]
  case region => exact fun g w => trip1_wp d L _ _ _ g w
  · unfold inv1
    isplitl [S0]; · rw [View.write_whole_univ]; iexact S0
    isplitl [S1]; · rw [View.write_whole_univ]; iexact S1
    isplitl [S2]; · rw [View.write_whole_univ]; iexact S2
    isplitl [S3]; · iexists _; isplitr; rotate_left; · iexact S3
                    · ipureintro; exact Filled.zero _ _ _
    isplitl [S4]; · iexists _; isplitr; rotate_left; · iexact S4
                    · ipureintro; exact Filled.zero _ _ _
    isplitl [S5]; · iexists _; isplitr; rotate_left; · iexact S5
                    · ipureintro; exact Filled.zero _ _ _
    iexists _; isplitr; rotate_left; · iexact S6
    · ipureintro; exact Filled.zero _ _ _
  unfold inv1
  iintro %w1 ⟨S0, S1, S2, ⟨%p3, %H3, S3⟩, ⟨%p4, %H4, S4⟩, ⟨%p5, %H5, S5⟩, ⟨%p6, %H6, S6⟩⟩
  sl_for (inv2 d L (cen L 0 fc) (cen L 1 fc) (cen L 2 fc)) $$ [S7 S8 S9 S10 S11 S12 S13]
  case region => exact fun g w => trip2_wp d L _ _ _ g w
  · unfold inv2
    isplitl [S7]; · rw [View.write_whole_univ]; iexact S7
    isplitl [S8]; · rw [View.write_whole_univ]; iexact S8
    isplitl [S9]; · rw [View.write_whole_univ]; iexact S9
    isplitl [S10]; · iexists _; isplitr; rotate_left; · iexact S10
                     · ipureintro; exact Filled.zero _ _ _
    isplitl [S11]; · iexists _; isplitr; rotate_left; · iexact S11
                     · ipureintro; exact Filled.zero _ _ _
    isplitl [S12]; · iexists _; isplitr; rotate_left; · iexact S12
                     · ipureintro; exact Filled.zero _ _ _
    iexists _; isplitr; rotate_left; · iexact S13
    · ipureintro; exact Filled.zero _ _ _
  unfold inv2
  iintro %w2 ⟨S7, S8, S9, ⟨%p10, %H10, S10⟩, ⟨%p11, %H11, S11⟩, ⟨%p12, %H12, S12⟩, ⟨%p13, %H13, S13⟩⟩
  have E3 : p3 = fun i => rnd1 (pts L 0 fp i) := filled_pt (G := fun i => rnd1 (pts L 0 fp i)) H3
  have E4 : p4 = fun i => rnd1 (pts L 1 fp i) := filled_pt (G := fun i => rnd1 (pts L 1 fp i)) H4
  have E5 : p5 = fun i => rnd1 (pts L 2 fp i) := filled_pt (G := fun i => rnd1 (pts L 2 fp i)) H5
  have E6 : p6 = fun i => sq1 (pts L 0 fp i) (pts L 1 fp i) (pts L 2 fp i) := filled_pt (G := fun i => sq1 (pts L 0 fp i) (pts L 1 fp i) (pts L 2 fp i)) H6
  have E10 : p10 = fun i => rnd1 (cen L 0 fc i) := filled_ctr (G := fun i => rnd1 (cen L 0 fc i)) H10
  have E11 : p11 = fun i => rnd1 (cen L 1 fc i) := filled_ctr (G := fun i => rnd1 (cen L 1 fc i)) H11
  have E12 : p12 = fun i => rnd1 (cen L 2 fc i) := filled_ctr (G := fun i => rnd1 (cen L 2 fc i)) H12
  have E13 : p13 = fun i => sq1 (cen L 0 fc i) (cen L 1 fc i) (cen L 2 fc i) := filled_ctr (G := fun i => sq1 (cen L 0 fc i) (cen L 1 fc i) (cen L 2 fc i)) H13
  clear H3 H4 H5 H6 H10 H11 H12 H13
  subst E3 E4 E5 E6 E10 E11 E12 E13
  sl_exec
  sl_for (inv3 d L (fun i => rnd1 (cen L 0 fc i)) (fun i => rnd1 (cen L 1 fc i)) (fun i => rnd1 (cen L 2 fc i))
    (fun i => sq1 (cen L 0 fc i) (cen L 1 fc i) (cen L 2 fc i)) (fun i => rnd1 (pts L 0 fp i)) (fun i => rnd1 (pts L 1 fp i))
    (fun i => rnd1 (pts L 2 fp i)) (fun i => sq1 (pts L 0 fp i) (pts L 1 fp i) (pts L 2 fp i))) $$ [S3 S4 S5 S6 S10 S11 S12 S13 S14 S15]
  case region => exact fun g w => trip3_wp d L _ _ _ _ _ _ _ _ g w
  · unfold inv3 tables
    isplitl [S3 S4 S5 S6 S10 S11 S12 S13]
    · isplitl [S3]; · iexact S3
      isplitl [S4]; · iexact S4
      isplitl [S5]; · iexact S5
      isplitl [S6]; · iexact S6
      isplitl [S10]; · iexact S10
      isplitl [S11]; · iexact S11
      isplitl [S12]; · iexact S12
      iexact S13
    isplitl [S14]; · iexists _; isplitr; rotate_left; · iexact S14
                     · ipureintro; exact Filled.zero _ _ _
    iexists _; isplitr; rotate_left; · iexact S15
    · ipureintro; exact Filled.zero _ _ _
  unfold inv3 tables
  iintro %w3 ⟨⟨S3, S4, S5, S6, S10, S11, S12, S13⟩, ⟨%p14, %H14, S14⟩, ⟨%p15, %H15, S15⟩⟩
  sl_exec
  have L0 : (L 0).val < 2 := (L 0).isLt
  have L1 : (L 1).val < 16 := (L 1).isLt
  have hA := landedA (F := F) L ga (rowA fc fp) (tile_run.sl.dma0_6 p14) (fun m => (H14 m m.isLt).trans (by
    have hn := near_eq L fc fp m.isLt
    unfold ans0 rowA
    rw [hn]
    have e1 : bT L = (128 * (2 * (L 1).val + (L 0).val) + m.val) / 2048 := by unfold bT; omega
    have e2 : mT L + m.val = (128 * (2 * (L 1).val + (L 0).val) + m.val) % 2048 := by unfold mT; omega
    rw [e1, e2]; rfl))
  have hB := landedB (F := F) L gb (rowB fc fp) (tile_run.sl.dma0_7 p15) (fun m => (H15 m m.isLt).trans (by
    have hn := near_eq L fc fp m.isLt
    unfold ans1 rowB
    rw [hn]
    have e1 : bT L = (128 * (2 * (L 1).val + (L 0).val) + m.val) / 2048 := by unfold bT; omega
    have e2 : mT L + m.val = (128 * (2 * (L 1).val + (L 0).val) + m.val) % 2048 := by unfold mT; omega
    rw [e1, e2]; rfl))
  ihave A := (Entails.of_eq (pointsTo_congr hA)) $$ A
  ihave B := (Entails.of_eq (pointsTo_congr hB)) $$ B
  rw [wp_ret]
  imodintro
  isplitl [C P A B]
  · isplitl [C]; · iexact C
    isplitl [P]; · iexact P
    isplitl [A]; · iexact A
    iexact B
  isplitl [S0 S1 S2 S3 S4 S5 S6 S7 S8 S9 S10 S11 S12 S13 S14 S15]
  · unfold tileBufs
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    iexists _; iexact S15
  isplitl [D0 D1 D2 D3 D4 D5 D6 D7]
  · unfold tileSems
    isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  iexists _; isplitr
  rotate_left
  · iexact HO
  ipureintro
  intro p hp
  simp only [Finset.mem_insert] at hp
  rcases hp with rfl | rfl | rfl | rfl | rfl | rfl | rfl | rfl | hp
  iterate 8 exact Or.inr rfl
  exact Or.inl hp

end Cert.Proof
-- ==== Proof.Own.lean ====
/-
  A tile owns its sixteen buffers and its eight semaphores; what else the launch gives it, it carries along.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The tile's buffers, and its semaphores. -/
def tileRefs : Finset (Ref sig .scVector) := {cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15}
def tileLocs : Finset (SemLoc sig) := {SemLoc.dma cc0_scoped0.sem, SemLoc.dma cc0_scoped1.sem, SemLoc.dma cc0_scoped2.sem, SemLoc.dma cc0_scoped3.sem, SemLoc.dma cc0_scoped4.sem, SemLoc.dma cc0_scoped5.sem, SemLoc.dma cc0_scoped6.sem, SemLoc.dma cc0_scoped7.sem}

def refAt (L : grid0.Coords) : Ref sig .scVector ↪ DevRef τ sig := ⟨(Proc.scVector (cV L) (jV L)).devRef, Proc.devRef_injective _⟩
def semAt (d : Dev nD) (L : grid0.Coords) : SemLoc sig ↪ GSem nD τ sig := ⟨fun s => (thr d L, s), fun _ _ h => (Prod.mk.inj h).2⟩

theorem refs_own (L : grid0.Coords) : tileRefs.map (refAt L) ⊆ ownRefs (τ := τ) (.scVector (cV L) (jV L)) := by
  intro b hb
  obtain ⟨r, hr, rfl⟩ := Finset.mem_map.mp hb
  refine SparseCore.Cfg.mem_ownRefs_of_owner (p := Proc.scVector (cV L) (jV L)) ?_
  simp only [tileRefs, Finset.mem_insert, Finset.mem_singleton] at hr
  rcases hr with rfl | rfl | rfl | rfl | rfl | rfl | rfl | rfl | rfl | rfl | rfl | rfl | rfl | rfl | rfl | rfl <;> rfl

theorem sems_own (d : Dev nD) (L : grid0.Coords) : tileLocs.map (semAt d L) ⊆ ownCells (thr d L) := by
  intro g hg
  obtain ⟨s, hs, rfl⟩ := Finset.mem_map.mp hg
  have h : ∀ s ∈ tileLocs, s.isScoped .scVector = true := by decide
  exact mem_ownCells.mpr ⟨rfl, h s hs⟩

/-- What a tile has besides. -/
def restBufs (d : Dev nD) (L : grid0.Coords) : SProp F :=
  bigSep (ownRefs (τ := τ) (.scVector (cV L) (jV L)) \ tileRefs.map (refAt L)) fun b => iprop(∃ f, ((d, b) : Loc nD τ sig) ↦{fullShare} f)
def restSems (d : Dev nD) (L : grid0.Coords) : SProp F :=
  bigSep (ownCells (thr d L) \ tileLocs.map (semAt d L)) fun g => semVal g 0

theorem ownBufs_tile (d : Dev nD) (L : grid0.Coords) : (ownBufs (thr d L) : SProp F) = iprop(tileBufs d L ∗ restBufs d L) := by
  unfold SparseCore.Cfg.ownBufs restBufs
  rw [show (thr d L).2 = .scVector (cV L) (jV L) from rfl, SparseCore.bigSep_sdiff_split' (refs_own L), bigSep_map]
  refine congrArg (fun R : SProp F => iprop(R ∗ _)) ?_
  unfold tileRefs
  iterate 15 rw [SparseCore.bigSep_insert' (by decide)]
  rw [bigSep_singleton]
  rfl

theorem ownSems_tile (d : Dev nD) (L : grid0.Coords) : (ownSems0 (thr d L) : SProp F) = iprop(tileSems d L ∗ restSems d L) := by
  unfold SparseCore.Cfg.ownSems0 restSems
  rw [SparseCore.bigSep_sdiff_split' (sems_own d L), bigSep_map]
  refine congrArg (fun R : SProp F => iprop(R ∗ _)) ?_
  unfold tileLocs
  iterate 7 rw [SparseCore.bigSep_insert' (by decide)]
  rw [bigSep_singleton]
  rfl

end Cert.Proof
-- ==== Proof.Deal.lean ====
/-
  How the arrays of the SparseCore call are dealt to its tiles and gathered again: every tile has a share of the two
  arrays it reads and its own 128 places of each of the two rows it writes.
-/
module

public import proofs.«01_k».proof.Proof.Own

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {F : FTy → Type} [FloatOps F]

theorem nCore_zero : (K (F := F)).nCore 0 = 2 := rfl
theorem nSub_zero : (K (F := F)).nSub 0 = 16 := rfl

abbrev lC (d : Dev nD) : Loc nD τ sig := (d.tc : Thread nD τ).loc main_v1
abbrev lP (d : Dev nD) : Loc nD τ sig := (d.tc : Thread nD τ).loc main_v3
abbrev lA (d : Dev nD) : Loc nD τ sig := (d.tc : Thread nD τ).loc main_v4_0
abbrev lB (d : Dev nD) : Loc nD τ sig := (d.tc : Thread nD τ).loc main_v4_1

/-- The share of a read array that tile `(c, s)` has. -/
def shr (c : Fin 2) (s : Fin 16) : PosShare TreeShare := shareTok (shareTok fullShare 2 c) 16 s

/-- The places of the rows that tile `(c, s)` writes. -/
def rowSet (p : Fin 2 × Fin 16) : Finset S4096.Idx :=
  Finset.univ.filter fun i => (i 0).val / 128 = 2 * p.2.val + p.1.val

theorem mem_rowSet (p : Fin 2 × Fin 16) (i : S4096.Idx) : i ∈ rowSet p ↔ (i 0).val / 128 = 2 * p.2.val + p.1.val := by
  unfold rowSet
  rw [Finset.mem_filter]
  exact and_iff_right (Finset.mem_univ i)

theorem rect_rowSet (L : grid0.Coords) : (Rect.unit (s := S4096) (k0_off7 L) S128.size (k0_off7_inb L)).set = rowSet (L 0, L 1) := by
  refine Finset.ext fun i => ?_
  rw [mem_rowSet, Rect.mem_set_unit, off7_eq]
  show _ ↔ (i 0).val / 128 = 2 * (L 1).val + (L 0).val
  constructor
  · intro h
    have h3 : 128 * (2 * (L 1).val + (L 0).val) ≤ (i 0).val ∧ (i 0).val < 128 * (2 * (L 1).val + (L 0).val) + 128 := h 0
    omega
  · intro h a
    obtain rfl : a = 0 := Subsingleton.elim (α := Fin 1) _ _
    show 128 * (2 * (L 1).val + (L 0).val) ≤ (i 0).val ∧ (i 0).val < 128 * (2 * (L 1).val + (L 0).val) + 128
    omega

theorem rowSet_disjoint : ∀ p ∈ (Finset.univ : Finset (Fin 2 × Fin 16)), ∀ p' ∈ (Finset.univ : Finset (Fin 2 × Fin 16)), p ≠ p' → Disjoint (rowSet p) (rowSet p') := by
  intro p _ p' _ hne
  rw [Finset.disjoint_left]
  intro i hi hi'
  rw [mem_rowSet] at hi hi'
  have h1 : p.1.val < 2 := p.1.isLt
  have h1' : p'.1.val < 2 := p'.1.isLt
  exact hne (Prod.ext (Fin.ext (by omega)) (Fin.ext (by omega)))

theorem rowSet_cover : (Finset.univ : Finset (Fin 2 × Fin 16)).biUnion rowSet = Finset.univ := by
  refine Finset.eq_univ_iff_forall.mpr fun i => ?_
  have hi : (i 0).val < 4096 := (i 0).isLt
  refine Finset.mem_biUnion.mpr ⟨(⟨(i 0).val / 128 % 2, by omega⟩, ⟨(i 0).val / 256, by omega⟩), Finset.mem_univ _, ?_⟩
  rw [mem_rowSet]
  show (i 0).val / 128 = 2 * ((i 0).val / 256) + (i 0).val / 128 % 2
  omega

theorem setA (L : grid0.Coords) : (aASl L).view.set = rowSet (L 0, L 1) := by
  show ((View.whole (main_v4_0_scv : Ref sig .scVector)).slice _).set = _
  rw [View.set_slice]; exact Finset.map_refl.trans (rect_rowSet L)
theorem setB (L : grid0.Coords) : (aBSl L).view.set = rowSet (L 0, L 1) := by
  show ((View.whole (main_v4_1_scv : Ref sig .scVector)).slice _).set = _
  rw [View.set_slice]; exact Finset.map_refl.trans (rect_rowSet L)

/-- What tile `(c, s)` holds of the call's arrays. -/
def tilePay (fc : FVec F S12288 .f32) (fp : FVec F S49152 .f32) (ga gb : IVec S4096 32) (d : Dev nD) (c : Fin 2) (s : Fin 16) : SProp F :=
  iprop((lC d ↦{shr c s} fc) ∗ (lP d ↦{shr c s} fp) ∗ (lA d ↦[rowSet (c, s)]{fullShare} ga) ∗ (lB d ↦[rowSet (c, s)]{fullShare} gb))

instance tilePay_storable (fc : FVec F S12288 .f32) (fp : FVec F S49152 .f32) (ga gb : IVec S4096 32) (d : Dev nD) (c : Fin 2) (s : Fin 16) :
    BI.Storable (upEmb : UEmb _ (MT nD τ sig (HIx 1) (Elt F) ℕ UU ℕ)) (tilePay fc fp ga gb d c s) := by
  unfold tilePay; infer_instance

/-- What a SparseCore's sixteen tiles hold. -/
def corePay (fc : FVec F S12288 .f32) (fp : FVec F S49152 .f32) (ga gb : IVec S4096 32) (d : Dev nD) (c : Fin 2) : SProp F :=
  bigSep Finset.univ fun s : Fin 16 => tilePay fc fp ga gb d c s

instance corePay_storable (fc : FVec F S12288 .f32) (fp : FVec F S49152 .f32) (ga gb : IVec S4096 32) (d : Dev nD) (c : Fin 2) :
    BI.Storable (upEmb : UEmb _ (MT nD τ sig (HIx 1) (Elt F) ℕ UU ℕ)) (corePay fc fp ga gb d c) := by
  unfold corePay; infer_instance

/-- What of a read array no tile has. -/
def keep (ℓ : Loc nD τ sig) (f : Buf (Elt F) ℓ) : SProp F :=
  iprop((ℓ ↦{shareDrop fullShare 2} f) ∗ bigSep Finset.univ fun c : Fin 2 => ℓ ↦{shareDrop (shareTok fullShare 2 c) 16} f)

theorem both {P Q : SProp F} (h : P ⊢ Q) (h' : Q ⊢ P) : P = Q := BI.equiv_iff.mp ⟨h, h'⟩

theorem bigSep_two {I : Type} (s : Finset I) (Φ Ψ : I → SProp F) :
    bigSep s (fun i => iprop(Φ i ∗ Ψ i)) = iprop(bigSep s Φ ∗ bigSep s Ψ) := BI.bigSep_sep s Φ Ψ

theorem shares (ℓ : Loc nD τ sig) (f : Buf (Elt F) ℓ) :
    (ℓ ↦{fullShare} f : SProp F) = iprop(keep ℓ f ∗ bigSep Finset.univ fun c : Fin 2 => bigSep Finset.univ fun s : Fin 16 => ℓ ↦{shr c s} f) := by
  have h1 : (ℓ ↦{fullShare} f : SProp F) = iprop((ℓ ↦{shareDrop fullShare 2} f) ∗ bigSep Finset.univ fun c : Fin 2 => ℓ ↦{shareTok fullShare 2 c} f) :=
    both (pointsTo_toks fullShare 2).1 (pointsTo_toks fullShare 2).2
  have h2 (c : Fin 2) : (ℓ ↦{shareTok fullShare 2 c} f : SProp F)
      = iprop((ℓ ↦{shareDrop (shareTok fullShare 2 c) 16} f) ∗ bigSep Finset.univ fun s : Fin 16 => ℓ ↦{shr c s} f) :=
    both (pointsTo_toks (shareTok fullShare 2 c) 16).1 (pointsTo_toks (shareTok fullShare 2 c) 16).2
  rw [h1, bigSep_congr fun c _ => h2 c, bigSep_two]
  unfold keep
  exact (both Laws.sep_assoc.1 Laws.sep_assoc.2).symm

theorem rowsA (d : Dev nD) (f : IVec S4096 32) :
    (lA d ↦{fullShare} f : SProp F) = bigSep Finset.univ fun c : Fin 2 => bigSep Finset.univ fun s : Fin 16 => lA d ↦[rowSet (c, s)]{fullShare} f := by
  rw [← bigSep_univ_prod (fun p : Fin 2 × Fin 16 => (lA d ↦[rowSet p]{fullShare} f : SProp F)),
    ← pointsTo_biUnion Finset.univ (ℓ := lA d) rowSet rowSet_disjoint, rowSet_cover]; try rfl
theorem rowsB (d : Dev nD) (f : IVec S4096 32) :
    (lB d ↦{fullShare} f : SProp F) = bigSep Finset.univ fun c : Fin 2 => bigSep Finset.univ fun s : Fin 16 => lB d ↦[rowSet (c, s)]{fullShare} f := by
  rw [← bigSep_univ_prod (fun p : Fin 2 × Fin 16 => (lB d ↦[rowSet p]{fullShare} f : SProp F)),
    ← pointsTo_biUnion Finset.univ (ℓ := lB d) rowSet rowSet_disjoint, rowSet_cover]; try rfl

/-- The four arrays whole are what the tiles hold and what no tile has. -/
theorem dealt (fc : FVec F S12288 .f32) (fp : FVec F S49152 .f32) (ga gb : IVec S4096 32) (d : Dev nD) :
    iprop((lC d ↦{fullShare} fc) ∗ (lP d ↦{fullShare} fp) ∗ (lA d ↦{fullShare} ga) ∗ (lB d ↦{fullShare} gb))
      = (iprop((keep (lC d) fc ∗ keep (lP d) fp) ∗ bigSep Finset.univ fun c : Fin 2 => corePay fc fp ga gb d c) : SProp F) := by
  unfold corePay tilePay
  simp only [bigSep_two]
  rw [shares (lC d), shares (lP d), rowsA, rowsB]
  refine both ?_ ?_
  · iintro ⟨⟨A, B⟩, ⟨C, E⟩, G, H⟩
    isplitl [A C]; · isplitl [A] <;> iassumption
    isplitl [B]; · iexact B
    isplitl [E]; · iexact E
    isplitl [G] <;> iassumption
  · iintro ⟨⟨A, C⟩, B, E, G, H⟩
    isplitl [A B]; · isplitl [A] <;> iassumption
    isplitl [C E]; · isplitl [C] <;> iassumption
    isplitl [G] <;> iassumption

end Cert.Proof
-- ==== Proof.Call.lean ====
/-
  The SparseCore call as the launch wants it: what its signals carry, what a tile proves of its body, and how a
  SparseCore's part splits into its tiles'.
-/
module

public import proofs.«01_k».proof.Proof.Deal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (fc : Dev nD → FVec F S12288 .f32) (fp : Dev nD → FVec F S49152 .f32) (ga gb : Dev nD → IVec S4096 32)

abbrev 𝕄 (F : FTy → Type) : Type := MT nD τ sig (HIx 1) (Elt F) ℕ UU ℕ

/-- What the call's signals carry: to a SparseCore and back, to a tile and back. -/
def P : (K (F := F)).Pay (nD := nD) (Val := Elt F) (Name := ℕ) (U := UU) where
  st := fun q d c => match q with | 0 => corePay (fc d) (fp d) (ga d) (gb d) d (Fin.cast nCore_zero c)
  dn := fun q d c => match q with | 0 => corePay (fc d) (fp d) (rowA (fc d) (fp d)) (rowB (fc d) (fp d)) d (Fin.cast nCore_zero c)
  go := fun q d c i => match q with
    | 0 => tilePay (fc d) (fp d) (ga d) (gb d) d (Fin.cast nCore_zero c) (Fin.cast nSub_zero i)
  td := fun q d c i => match q with
    | 0 => tilePay (fc d) (fp d) (rowA (fc d) (fp d)) (rowB (fc d) (fp d)) d (Fin.cast nCore_zero c) (Fin.cast nSub_zero i)
  x := fun _ _ => iprop(emp)

instance P_storable : (P fc fp ga gb).IsStorable where
  st q d c := match q with | 0 => corePay_storable (fc d) (fp d) (ga d) (gb d) d (Fin.cast nCore_zero c)
  dn q d c := match q with
    | 0 => corePay_storable (fc d) (fp d) (rowA (fc d) (fp d)) (rowB (fc d) (fp d)) d (Fin.cast nCore_zero c)
  go q d c i := match q with
    | 0 => tilePay_storable (fc d) (fp d) (ga d) (gb d) d (Fin.cast nCore_zero c) (Fin.cast nSub_zero i)
  td q d c i := match q with
    | 0 => tilePay_storable (fc d) (fp d) (rowA (fc d) (fp d)) (rowB (fc d) (fp d)) d (Fin.cast nCore_zero c) (Fin.cast nSub_zero i)

theorem vecSplit : (K (F := F)).VecSplit' (P fc fp ga gb) 0 := by
  intro d c
  show corePay (fc d) (fp d) (ga d) (gb d) d (Fin.cast nCore_zero c)
    ⊢ |={Set.univ}=> iprop(corePay (fc d) (fp d) (ga d) (gb d) d (Fin.cast nCore_zero c)
      ∗ (corePay (fc d) (fp d) (rowA (fc d) (fp d)) (rowB (fc d) (fp d)) d (Fin.cast nCore_zero c)
        -∗ corePay (fc d) (fp d) (rowA (fc d) (fp d)) (rowB (fc d) (fp d)) d (Fin.cast nCore_zero c)))
  iintro H
  imodintro
  isplitl [H]; · iexact H
  iintro H
  iexact H

theorem defs₀_vector (c : Fin τ.nSC) (s : Fin τ.nSub) :
    defs₀ (F := F) (.scVector c s) 0 ()
      = SparseCore.onTile hcore0 hsub0 (fun c s => cc0__sc_body (F := F) (coordsV c s) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scoped0 cc0_scoped1 cc0_scoped2 cc0_scoped3 cc0_scoped4 cc0_scoped5 cc0_scoped6 cc0_scoped7) ⟨⟩ c s := rfl

theorem obl_post {thr : Thread nD τ} {A B C : SProp F} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What a tile holds, in the tile's own words. -/
theorem tilePay_at (fc : FVec F S12288 .f32) (fp : FVec F S49152 .f32) (ga gb : IVec S4096 32) (d : Dev nD) (L : grid0.Coords) :
    tilePay fc fp ga gb d (L 0) (L 1)
      = iprop((aC.view.loc (thr d L) ↦{shr (L 0) (L 1)} fc) ∗ (aP.view.loc (thr d L) ↦{shr (L 0) (L 1)} fp)
          ∗ ((aASl L).view.loc (thr d L) ↦[(aASl L).view.set]{fullShare} ga) ∗ ((aBSl L).view.loc (thr d L) ↦[(aBSl L).view.set]{fullShare} gb)) := by
  rw [setA, setB]; rfl

/-- A run carries along what it does not touch. -/
theorem carried {t : Thread nD τ} {p : Prog (TpuEff nD τ sig (Elt F) Λ₀ t.2) PUnit} {X Y Y' B B' Z Z' O O' : SProp F}
    (h : iprop(X ∗ Y ∗ B ∗ Z ∗ O) ⊢ wp frame (wpE (defs₀ (F := F)) 𝒱₀ t none) Set.univ p fun _ => iprop(Y' ∗ B ∗ Z ∗ O')) :
    iprop(X ∗ emp ∗ Y ∗ (B ∗ B') ∗ (Z ∗ Z') ∗ O)
      ⊢ wp frame (wpE (defs₀ (F := F)) 𝒱₀ t none) Set.univ p fun _ => iprop(Y' ∗ (B ∗ B') ∗ (Z ∗ Z') ∗ O') := by
  have e1 : iprop(X ∗ emp ∗ Y ∗ (B ∗ B') ∗ (Z ∗ Z') ∗ O) ⊢ iprop((X ∗ Y ∗ B ∗ Z ∗ O) ∗ (B' ∗ Z')) := by
    iintro ⟨HL, -, HP, ⟨HB, HB'⟩, ⟨HS, HS'⟩, HO⟩
    isplitr [HB' HS']
    · isplitl [HL]; · iexact HL
      isplitl [HP]; · iexact HP
      isplitl [HB]; · iexact HB
      isplitl [HS] <;> iassumption
    · isplitl [HB'] <;> iassumption
  have e2 : iprop((Y' ∗ B ∗ Z ∗ O') ∗ (B' ∗ Z')) ⊢ iprop(Y' ∗ (B ∗ B') ∗ (Z ∗ Z') ∗ O') := by
    iintro ⟨⟨HP, HB, HS, HO⟩, HB', HS'⟩
    isplitl [HP]; · iexact HP
    isplitl [HB HB']; · isplitl [HB] <;> iassumption
    isplitl [HS HS']; · isplitl [HS] <;> iassumption
    iexact HO
  exact e1.trans (((sep_mono_left h).trans (wp_frame_r frame _ _)).trans (wp_mono frame _ _ fun _ => e2))

set_option maxRecDepth 16384 in
/-- A tile's body, from what the launch gives it to what the launch wants back. -/
theorem tile_body (d : Dev nD) (L : grid0.Coords) (O : CellTallies nD τ sig (HIx 1)) (W : Waits sig (HIx 1)) (hO : ∀ g, O g none = 0) :
    iprop(levAts (K (F := F)).L (K (F := F)).lev ∗ emp ∗ tilePay (fc d) (fp d) (ga d) (gb d) d (L 0) (L 1)
        ∗ scopedBufs (thr d L) ∗ scopedSems0 (thr d L) ∗ owes (thr d L) O W)
      ⊢ wp frame (wpE (defs₀ (F := F)) 𝒱₀ (thr d L) none) Set.univ (tileProg L)
          fun _ => iprop(tilePay (fc d) (fp d) (rowA (fc d) (fp d)) (rowB (fc d) (fp d)) d (L 0) (L 1)
            ∗ scopedBufs (thr d L) ∗ scopedSems0 (thr d L) ∗ ∃ W', ⌜∀ p ∈ W', p ∈ W ∨ p.2 = none⌝ ∗ owes (thr d L) O W') := by
  have hB : (scopedBufs (thr d L) : SProp F) = iprop(tileBufs d L ∗ restBufs d L) :=
    ((K (F := F)).scopedBufs_V facts d (cV L) (jV L)).trans (ownBufs_tile d L)
  have hS : (scopedSems0 (thr d L) : SProp F) = iprop(tileSems d L ∗ restSems d L) :=
    (SparseCore.Cfg.scopedSems0_V (Val := Elt F) d (cV L) (jV L)).trans (ownSems_tile d L)
  rw [hB, hS, tilePay_at, tilePay_at]
  exact carried (tile_run d L (shr (L 0) (L 1)) (fc d) (fp d) (ga d) (gb d) O W hO)

set_option maxRecDepth 16384 in
theorem tileObl : (K (F := F)).TileObl (D (F := F)) 𝒱 (P fc fp ga gb) v₀ 0 := by
  intro d c i O W hO _ _
  simp only [show (P fc fp ga gb).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fc fp ga gb d (coordsV ⟨_, hci.1⟩ ⟨_, hci.2⟩) O W hO).trans (wp_mono frame _ _ fun _ => obl_post)

end Cert.Proof
-- ==== Proof.Block.lean ====
/-
  The pipelined kernel's block: what one grid point leaves in the result's buffer, as a function of the block of centres
  and the batch of points it is handed, and the body's run over three whole staging buffers.
-/
module

public import proofs.«01_k».proof.Proof.Base

public import Idealize.ShloMosaic.Lib.Pipeline.FrameBody
public import Idealize.ShloMosaic.Lib.Pipeline.RegionsLoop
public import Idealize.ShloMosaic.Lib.Pipeline.ValueKit

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F] [∀ e, Nonempty (Elt F e)]

theorem zero3 : (![0, 0, 0] : Fin 3 → Nat) = fun _ => 0 := funext fun a => by fin_cases a <;> rfl

abbrev 𝕋 (F : FTy → Type) : Type := MT nD τ sig (HIx 1) (Elt F) ℕ UU ℕ

/-- The result block of a block of centres against a batch's points. -/
def blockAns (xc : Vec F S1x3x1024 .f32) (xp : Vec F S1x3x8192 .f32) : IVec S1x2x1024 32 :=
  k1_pay1 (k1_pay2 xc xp) (Scalar.ofBits .f32 0x3C23D70A#32)

/-- The body at any grid point: from its three buffers whole, the two inputs are as they were and the result's reads
    the block of answers. -/
theorem block_run (c : Dev nD) (i : grid1.Coords)
    (A : Memref sig .tc .vmem S1x3x1024 .f32) (hA : A.IsWhole) (B : Memref sig .tc .vmem S1x3x8192 .f32) (hB : B.IsWhole)
    (C : Memref sig .tc .vmem S1x2x1024 .i32) (hC : C.IsWhole)
    (xc : Vec F S1x3x1024 .f32) (xp : Vec F S1x3x8192 .f32) (o : Vec F S1x2x1024 .i32) :
    iprop(owns (c : Thread nD τ) A fullShare xc ∗ owns (c : Thread nD τ) B fullShare xp ∗ owns (c : Thread nD τ) C fullShare o)
      ⊢ (wp frame (wpE (defs₀ (F := F)) 𝒱₀ (c : Thread nD τ) none) Set.univ (cc1__tc_body i A hA B hB C hC) fun _ =>
          iprop(owns (c : Thread nD τ) A fullShare xc ∗ owns (c : Thread nD τ) B fullShare xp
            ∗ owns (c : Thread nD τ) C fullShare (blockAns xc xp)) : SProp F) := by
  rw [cc1__tc_body_eq_skeleton]
  unfold cc1__tc_body_skel
  rw [k1_part1_eq_skeleton]
  unfold k1_part1_skel owns
  iintro ⟨⟨%f, %hf, H0⟩, ⟨%g, %hg, H1⟩, ⟨%w, %hw, H2⟩⟩
  sl_exec
  rw [wp_ret]
  imodintro
  isplitl [H0]; · iexists f; isplitr; (· ipureintro; exact hf); iexact H0
  isplitl [H1]; · iexists g; isplitr; (· ipureintro; exact hg); iexact H1
  iexists _
  isplitr
  rotate_left
  · iexact H2
  · ipureintro
    rw [View.read_writes_eq_canon _ _ _ (fun y => ⟨_, List.mem_singleton_self _, View.mem_set_unit_zero zero3 inb_S1x2x1024_S1x2x1024_0_0_0 y⟩),
      View.canon_unit_zero zero3, View.readAt_eq_ld, View.readAt_eq_ld, View.ld_unit_zero zero3, View.ld_unit_zero zero3, hf, hg]
    rfl

/-! ## The proof data of the region, from the arrays' contents -/

variable (V : (c : Dev nD) → (b : Ref sig .tc) → Buf (Elt F) ((c : Thread nD τ).loc b))

/-- The block of centres at point `t`. -/
abbrev cenBlk (c : Dev nD) (t : Fin cfg1.N) : Vec F S1x3x1024 .f32 :=
  ((cfg1.win 0).blk t).view.read (Elt F) (V c main_v10)
/-- The batch of points at point `t`. -/
abbrev ptsBlk (c : Dev nD) (t : Fin cfg1.N) : Vec F S1x3x8192 .f32 :=
  ((cfg1.win 1).blk t).view.read (Elt F) (V c main_v11)

/-- What the region is proved with: the arrays as they are at entry; after each point the inputs' blocks as fetched and
    the result's block of answers; nothing owed; what the core's waits have recorded, at or below the call's last level. -/
def rdat (c : Dev nD) : Dat τ (Elt F) (HIx 1) ℕ UU ℕ cfg1 c where
  A w := V c (Pipeline.arrRef spec1 w)
  after w t := match w with
    | ⟨0, _⟩ => cenBlk V c t
    | ⟨1, _⟩ => ptsBlk V c t
    | ⟨2, _⟩ => blockAns (cenBlk V c t) (ptsBlk V c t)
  Φ _ := iprop(emp)
  q _ := fullShare
  owed _ := 0
  recorded _ := {p | (K (F := F)).lev ((c : Thread nD τ), p.1) p.2 ≤ 8}

/-- The kernel has no prefetched table. -/
abbrev adm : (p : Fin 1) → (pcfgs (F := F) p).Adm := fun p => (cfgs p).toPCfg_adm

/-- The family of one. -/
def rdats : (p : Fin 1) → (c : Dev nD) → Dat τ (Elt F) (HIx 1) ℕ UU ℕ (Pipeline.pin (pcfgs (F := F)) adm p) c
  | ⟨0, _⟩ => rdat V

theorem cen_before (c : Dev nD) (t : Fin cfg1.N) (d) : (rdat V c).before 0 t d = cenBlk V c t :=
  (rdat V c).before_in_eq_fetched 0 rfl (fun _ => rfl) (fun _ _ _ => rfl) (fun _ => rfl) t d
theorem pts_before (c : Dev nD) (t : Fin cfg1.N) (d) : (rdat V c).before 1 t d = ptsBlk V c t :=
  (rdat V c).before_in_eq_fetched 1 rfl (fun _ => rfl) (fun _ _ _ => rfl) (fun _ => rfl) t d

theorem region_body (c : Dev nD) : BodyObligation (rdat V c) (defs₀ (F := F)) 𝒱₀ none Set.univ := fun t => by
  rw [bigSep_W1, bigSep_W1]
  rw [show (rdat V c).Φ t.castSucc = iprop(emp) from rfl, show (rdat V c).Φ t.succ = iprop(emp) from rfl,
    show (rdat V c).owesAt none t.succ = (rdat V c).owesAt none t.castSucc from rfl]
  iintro ⟨HΦ, HO, ⟨%d0, H0⟩, ⟨%d1, H1⟩, ⟨%d2, H2⟩⟩
  rw [cen_before, pts_before]
  ihave Hw := (block_run c (grid1.coords t) (st1_0 t) (hstage1_0 ((cfg1.slots t 0).cast nbuf1_0)) (st1_1 t)
    (hstage1_1 ((cfg1.slots t 1).cast nbuf1_1)) (st1_2 t) (hstage1_2 ((cfg1.slots t 2).cast nbuf1_2))
    (cenBlk V c t) (ptsBlk V c t) ((rdat V c).before 2 t d2)) $$ [H0 H1 H2]
  · isplitl [H0]; · iexact H0
    isplitl [H1] <;> iassumption
  iapply (wp_wand frame _ _ (Q := fun _ => iprop(owns (c : Thread nD τ) (st1_0 t) fullShare (cenBlk V c t)
    ∗ owns (c : Thread nD τ) (st1_1 t) fullShare (ptsBlk V c t)
    ∗ owns (c : Thread nD τ) (st1_2 t) fullShare (blockAns (cenBlk V c t) (ptsBlk V c t))))) $$ Hw
  iintro %_ ⟨H0, H1, H2⟩
  isplitl [HΦ]; · iexact HΦ
  isplitl [HO]; · iexact HO
  isplitl [H0]; · iexact H0
  isplitl [H1]; · iexact H1
  iexact H2

end Cert.Proof

end
-- ==== Proof.Region.lean ====
/-
  The pipelined kernel's region: entered holding every array of the host's at a valuation, left holding them at the
  valuation with the region's result in place.
-/
module

public import proofs.«01_k».proof.Proof.Block

public import Idealize.ShloMosaic.Lib.Pipeline.FrameBody
public import Idealize.ShloMosaic.Lib.Pipeline.RegionsLoop
public import Idealize.ShloMosaic.Lib.Pipeline.ValueKit

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F] [∀ e, Nonempty (Elt F e)]

variable (V V' : (c : Dev nD) → (b : Ref sig .tc) → Buf (Elt F) ((c : Thread nD τ).loc b))

/-- What the core owes around the region: nothing, its waits so far at or below the call's last level. -/
abbrev owesNone (c : Dev nD) : SProp F :=
  iprop(∃ W, ⌜(K (F := F)).WBelow (c : Thread nD τ) W 8⌝ ∗ owes (c : Thread nD τ) (0 : CellTallies nD τ sig (HIx 1)) W)

/-- The result's array after the region. -/
def regionOut (c : Dev nD) : Buf (Elt F) ((c : Thread nD τ).loc main_v12) := (rdat V c).arrAt 2 cfg1.N

set_option backward.isDefEq.respectTransparency.types false in
def region (hout : ∀ c, V' c main_v12 = regionOut V c) (hne : ∀ c (b : Ref sig .tc), b ≠ main_v12 → V' c b = V c b) :
    Pipeline.RegionSeg (pcfgs (F := F)) adm (rdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (region_body V c).loose
  hwaits := Pipeline.hwaits_of_owed_zero _ _ _ _ (K (F := F)).L (K (F := F)).lev 0 fun _ _ => rfl
  pre c := iprop(unscopedBufs c (V c) ∗ owesNone c)
  post c := iprop(unscopedBufs c (V' c) ∗ owesNone c)
  X _ := iprop(emp)
  Y _ := iprop(emp)
  Z c := Pipeline.unscopedRest spec1 c (V c)
  hentry c := by
    rw [Pipeline.ownSems0_none]
    have hs := Pipeline.arrays_of_unscopedBufs (p := 0) (pcfgs (F := F)) adm (rdats V) launch1.win launch1.arr_whole c
      ((rdats V 0 c).share_full fun _ => rfl) (V c) fun _ => rfl
    iintro ⟨⟨HV, ⟨%W, %hW, HO⟩⟩, -, -⟩
    ihave H := hs $$ HV
    icases H with ⟨Ha, Hr⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      iexists W
      isplitr
      · ipureintro
        exact fun p hp => Or.inl (hW p hp)
      iexact HO
    isplitr; · iempintro
    iexact Hr
  hin c := by
    rw [show (rdats V 0 c).Φ 0 = iprop(emp) from rfl]
    iintro ⟨-, -, -⟩; iempintro
  hout c := by
    rw [Pipeline.ownSems0_none, show (rdats V 0 c).Φ (Fin.last _) = iprop(emp) from rfl,
      show Pipeline.scopedRest (pcfgs (F := F) 0).spec c = (iprop(emp) : SProp F) from scopedRest1_eq c]
    iintro -
    isplitr; · iempintro
    isplitr <;> iempintro
  hexit c := by
    have hj := Pipeline.unscopedBufs_of_arrays (p := 0) (pcfgs (F := F)) adm (Ix := HIx 1) (Name := ℕ) (U := UU) (Lvl := ℕ)
      launch1.win launch1.arr_whole c (rdats V) ((rdats V 0 c).share_full fun _ => rfl) (V c) (V' c) ((rdats V 0 c).arrAt · cfg1.N)
      (fun w => by
        fin_cases w
        · exact ((rdats V 0 c).arrAt_in 0 rfl _).trans (hne c main_v10 (by decide)).symm
        · exact ((rdats V 0 c).arrAt_in 1 rfl _).trans (hne c main_v11 (by decide)).symm
        · exact (hout c).symm)
      (fun b hb => hne c b fun h => hb (h ▸ Finset.mem_image.mpr ⟨2, Finset.mem_univ _, rfl⟩))
    iintro ⟨Ha, HO, -, Hr⟩
    imodintro
    isplitl [Ha Hr]
    · iapply hj; isplitl [Ha] <;> iassumption
    unfold Pipeline.Dat.owesAt Pipeline.owesWithin
    icases HO with ⟨%W, %hW, HO⟩
    iexists W
    isplitr
    · ipureintro
      intro p hp
      rcases hW hp with h | h
      · exact h
      · obtain ⟨w, s, rfl⟩ := h
        exact Nat.zero_le _
    iexact HO

end Cert.Proof

end
-- ==== Proof.Ghost.lean ====
/-
  The launch element: the handshakes' rounds and the pipelined region's, side by side, and what the launch deals of them.
-/
module

public import proofs.«01_k».proof.Proof.Call
public import proofs.«01_k».proof.Proof.Region

public import Idealize.ShloMosaic.Lib.Pipeline.FrameBody
public import Idealize.ShloMosaic.Lib.Pipeline.RegionsLoop
public import Idealize.ShloMosaic.Lib.Pipeline.ValueKit

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

/-- Where the region's rounds live. -/
def EB : Emb UB (𝕋 F) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb

instance EB_landsIn : (EB (F := F)).LandsIn (upEmb : UEmb _ (𝕋 F)) := by unfold EB; infer_instance

theorem cells_inj : Function.Injective (Pipeline.cellOf (nD := nD) (τ := τ) (Pipeline.pin (pcfgs (F := F)) adm)) := cellOf_inj

/-- The launch's part for the region. -/
def regionElt : UB :=
  initOf (Pipeline.cells (Pipeline.pin (pcfgs (F := F)) adm) cells_inj) (Pipeline.launchToks (Pipeline.pin (pcfgs (F := F)) adm) cells_inj)

def u₀ : UU := (initOf (K (F := F)).hsCells (K (F := F)).hsToks, (regionElt (F := F), 1))

/-- What a TensorCore gets of it: its region's cells and tokens. -/
def G (d : Dev nD) : SProp F :=
  iprop(Pipeline.cellsGhost (Pipeline.pin (pcfgs (F := F)) adm) EB 0 d ∗ Pipeline.toksInit (Pipeline.pin (pcfgs (F := F)) adm) EB 0 d)

omit [FloatOps F] in
theorem ownU_split (a : UH) (b : UB) : (ownU ((a, (b, 1)) : UU) : SProp F) ⊢ iprop(BI.own (EH a) ∗ BI.own (EB (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

variable (fc : Dev nD → FVec F S12288 .f32) (fp : Dev nD → FVec F S49152 .f32) (ga gb : Dev nD → IVec S4096 32)

theorem no_extra : (bigSep Finset.univ fun t : Thread nD τ => bigSep Finset.univ fun q : Fin 1 => (P fc fp ga gb).x q t) = (iprop(emp) : SProp F) := by
  rw [show (bigSep Finset.univ fun t : Thread nD τ => bigSep Finset.univ fun q : Fin 1 => (P fc fp ga gb).x q t)
      = bigSep Finset.univ fun _ => iprop(emp) from bigSep_congr fun _ _ => bigSep_univ_of_subsingleton (0 : Fin 1)]
  exact bigSep_emp_const _

theorem one (Φ : Fin 1 → SProp F) : Φ 0 = bigSep Finset.univ Φ := (bigSep_univ_of_subsingleton (0 : Fin 1)).symm

theorem dealt_ghost : (ownU (u₀ (F := F)) : SProp F)
    ⊢ |={Set.univ}=> iprop(BI.own (EH (initOf (K (F := F)).hsCells (K (F := F)).hsToks)) ∗ bigSep Finset.univ G
        ∗ bigSep Finset.univ fun t : Thread nD τ => bigSep Finset.univ fun q : Fin 1 => (P fc fp ga gb).x q t) := by
  rw [no_extra]
  unfold u₀ regionElt
  iintro H
  ihave H := (ownU_split _ _) $$ H
  icases H with ⟨HH, HB⟩
  imod (Pipeline.fund_ghost (Pipeline.pin (pcfgs (F := F)) adm) (EB (F := F)) cells_inj) $$ HB with ⟨Hg, Ht⟩
  imodintro
  isplitl [HH]; · iexact HH
  isplitl [Hg Ht]
  · unfold G
    rw [bigSep_two]
    isplitl [Hg]
    · rw [show (bigSep Finset.univ fun d : Dev nD => Pipeline.cellsGhost (Pipeline.pin (pcfgs (F := F)) adm) EB 0 d)
        = bigSep Finset.univ fun d : Dev nD => bigSep Finset.univ fun p : Fin 1 => Pipeline.cellsGhost (Pipeline.pin (pcfgs (F := F)) adm) EB p d
        from bigSep_congr fun _ _ => one fun p => Pipeline.cellsGhost (Pipeline.pin (pcfgs (F := F)) adm) EB p _]
      iexact Hg
    · rw [show (bigSep Finset.univ fun d : Dev nD => Pipeline.toksInit (Pipeline.pin (pcfgs (F := F)) adm) EB 0 d)
        = bigSep Finset.univ fun d : Dev nD => bigSep Finset.univ fun p : Fin 1 => Pipeline.toksInit (Pipeline.pin (pcfgs (F := F)) adm) EB p d
        from bigSep_congr fun _ _ => one fun p => Pipeline.toksInit (Pipeline.pin (pcfgs (F := F)) adm) EB p _]
      iexact Ht
  iempintro

variable [∀ e, Nonempty (Elt F e)] (V V' : (c : Dev nD) → (b : Ref sig .tc) → Buf (Elt F) ((c : Thread nD τ).loc b))

/-- The region where @main calls it. -/
theorem region_step (d : Dev nD) (hout : ∀ c, V' c main_v12 = regionOut V c) (hne : ∀ c (b : Ref sig .tc), b ≠ main_v12 → V' c b = V c b) :
    iprop(boundary (T d) ∗ unscopedBufs d (V d) ∗ owesNone d ∗ levAts (K (F := F)).L (K (F := F)).lev ∗ G d)
      ⊢ (wp frame (wpE ((K (F := F)).defs (D (F := F))) 𝒱 (T d) none) Set.univ
          (Prog.lift (.customCall (SparseCore.inner (Pipeline.entry 0)) ())) fun _ =>
            iprop(boundary (T d) ∗ unscopedBufs d (V' d) ∗ owesNone d) : SProp F) := by
  have h := Pipeline.RegionSeg.wp (pcfgs (F := F)) adm (rdats V) none cells_inj (EB (F := F)) defs₀ 𝒱₀ (K (F := F)).L (K (F := F)).lev
    (region V V' hout hne) d none (fun _ h => nomatch h) (fun x => .ret x) (fun _ => iprop(boundary (T d) ∗ unscopedBufs d (V' d) ∗ owesNone d))
  have h2 := (K (F := F)).wp_liftProg (D (F := F)) 𝒱 (T d) Set.univ none (.op (.customCall (Pipeline.entry 0) ()) fun x => .ret x) (fun _ => iprop(boundary (T d) ∗ unscopedBufs d (V' d) ∗ owesNone d))
  have e : iprop(boundary (T d) ∗ unscopedBufs d (V d) ∗ owesNone d ∗ levAts (K (F := F)).L (K (F := F)).lev ∗ G d)
    ⊢ (iprop((iprop(boundary (d.tc : Thread nD τ) ∗ (region V V' hout hne).post d)
          -∗ wp frame (wpE (Pipeline.defs pcfgs defs₀) 𝒱₀.lift (d.tc : Thread nD τ) none) Set.univ
            (Prog.ret PUnit.unit : Prog (TpuEff nD τ sig (Elt F) (ΛP (F := F)) .tc) PUnit)
            fun _ => iprop(boundary (T d) ∗ unscopedBufs d (V' d) ∗ owesNone d))
        ∗ boundary (d.tc : Thread nD τ) ∗ (region V V' hout hne).pre d ∗ levAts (K (F := F)).L (K (F := F)).lev
        ∗ Pipeline.cellsGhost (Pipeline.pin (pcfgs (F := F)) adm) EB 0 d ∗ Pipeline.toksInit (Pipeline.pin (pcfgs (F := F)) adm) EB 0 d) : SProp F) := by
    rw [show (region V V' hout hne).pre d = iprop(unscopedBufs d (V d) ∗ owesNone d) from rfl,
      show (region V V' hout hne).post d = iprop(unscopedBufs d (V' d) ∗ owesNone d) from rfl]
    unfold G
    iintro ⟨Hb, HV, HO, HL, Hg, Ht⟩
    isplitr
    · iintro ⟨Hb, HV, HO⟩
      rw [wp_ret]
      imodintro
      isplitl [Hb]; · iexact Hb
      isplitl [HV] <;> iassumption
    isplitl [Hb]; · iexact Hb
    isplitl [HV HO]; · isplitl [HV] <;> iassumption
    isplitl [HL]; · iexact HL
    isplitl [Hg] <;> iassumption
  refine (e.trans h).trans ?_
  exact h2

end Cert.Proof

end
-- ==== Proof.Stretches.lean ====
/-
  @main on the TensorCore as stretches of host operations around the two calls, and the arrays' contents after each.
-/
module

public import proofs.«01_k».proof.Proof.Ghost
public import Idealize.ShloMosaic.Lib.Pipeline.Frame

public import Idealize.ShloMosaic.Lib.Pipeline.FrameBody
public import Idealize.ShloMosaic.Lib.Pipeline.RegionsLoop
public import Idealize.ShloMosaic.Lib.Pipeline.ValueKit

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (held)
open Idealize.ShloMosaic.Pipeline (ucRefs)

variable {F : FTy → Type} [FloatOps F] [∀ e, Nonempty (Elt F e)]

/-! ## The host operations -/

/-- Before the SparseCore call: the last two batches' centres and points, flat. -/
def opsA : List (HloOp τ sig (Elt F)) :=
  [StableHlo.unary main_arg0 main_v0 (fun a => extractStridedSlice S2x3x2048 ![2, 0, 0] a slices_S4x3x2048_S2x3x2048_2_0_0),
   StableHlo.reshape main_v0 main_v1 rfl shapeCasts_S2x3x2048_S12288,
   StableHlo.unary main_arg1 main_v2 (fun a => extractStridedSlice S2x3x8192 ![2, 0, 0] a slices_S4x3x8192_S2x3x8192_2_0_0),
   StableHlo.reshape main_v2 main_v3 rfl shapeCasts_S2x3x8192_S49152]

/-- Between the calls: the SparseCore's two arrays stacked, and the first two batches' centres and points. -/
def opsB : List (HloOp τ sig (Elt F)) :=
  [StableHlo.reshape main_v4_0 main_v5 rfl shapeCasts_S4096_S2x2048,
   StableHlo.reshape main_v4_1 main_v6 rfl shapeCasts_S4096_S2x2048,
   StableHlo.unary main_v5 main_v7 (broadcastInDim S2x2048x1 ![0, 1] bcast_S2x2048_S2x2048x1_0_1),
   StableHlo.unary main_v6 main_v8 (broadcastInDim S2x2048x1 ![0, 1] bcast_S2x2048_S2x2048x1_0_1),
   StableHlo.binary main_v7 main_v8 main_v9 (fun a b => concatenate S2x2048x2 2 [⟨S2x2048x1, a⟩, ⟨S2x2048x1, b⟩] concatenates_S2x2048x1_S2x2048x1_S2x2048x2_d2),
   StableHlo.unary main_arg0 main_v10 (fun a => extractStridedSlice S2x3x2048 ![0, 0, 0] a slices_S4x3x2048_S2x3x2048_0_0_0),
   StableHlo.unary main_arg1 main_v11 (fun a => extractStridedSlice S2x3x8192 ![0, 0, 0] a slices_S4x3x8192_S2x3x8192_0_0_0)]

/-- After them: the four batches together. -/
def opsC : List (HloOp τ sig (Elt F)) :=
  [StableHlo.unary main_v12 main_v13 (fun a => transpose S2x2048x2 [0, 2, 1] a transposes_S2x2x2048_S2x2048x2_0_2_1),
   StableHlo.binary main_v13 main_v9 main_v14 (fun a b => concatenate S4x2048x2 0 [⟨S2x2048x2, a⟩, ⟨S2x2048x2, b⟩] concatenates_S2x2048x2_S2x2048x2_S4x2048x2_d0)]

theorem main_eq (d : Dev nD) : main (F := F) d = (StableHlo.seq opsA >>= fun _ => (K (F := F)).run d 0 >>= fun _ => StableHlo.seq opsB >>= fun _ =>
    Prog.lift (.customCall (SparseCore.inner (Pipeline.entry 0)) ()) >>= fun _ => StableHlo.seq opsC >>= fun _ => pure ⟨⟩) := by
  simp only [main, opsA, opsB, opsC, StableHlo.seq, bind_assoc, pure_bind]
  rfl

theorem opsA_sub : ∀ op ∈ opsA (F := F), op.bufs ⊆ ucRefs τ sig := by
  intro op h
  simp only [opsA, List.mem_cons, List.not_mem_nil, or_false] at h
  rcases h with rfl | rfl | rfl | rfl <;> refine Pipeline.sub_ucRefs _ ?_ <;>
    simp only [StableHlo.unary_bufs, StableHlo.reshape_bufs, Finset.insert_subset_iff, Finset.singleton_subset_iff, and_self] <;>
    refine ⟨StableHlo.devRef_mem_tcRefs _, ?_⟩ <;>
    first | exact StableHlo.devRef_mem_tcRefs _ | exact ⟨StableHlo.devRef_mem_tcRefs _, StableHlo.devRef_mem_tcRefs _⟩
theorem opsB_sub : ∀ op ∈ opsB (F := F), op.bufs ⊆ ucRefs τ sig := by
  intro op h
  simp only [opsB, List.mem_cons, List.not_mem_nil, or_false] at h
  rcases h with rfl | rfl | rfl | rfl | rfl | rfl | rfl <;> refine Pipeline.sub_ucRefs _ ?_ <;>
    simp only [StableHlo.unary_bufs, StableHlo.binary_bufs, StableHlo.reshape_bufs, Finset.insert_subset_iff, Finset.singleton_subset_iff, and_self] <;>
    refine ⟨StableHlo.devRef_mem_tcRefs _, ?_⟩ <;>
    first | exact StableHlo.devRef_mem_tcRefs _ | exact ⟨StableHlo.devRef_mem_tcRefs _, StableHlo.devRef_mem_tcRefs _⟩
theorem opsC_sub : ∀ op ∈ opsC (F := F), op.bufs ⊆ ucRefs τ sig := by
  intro op h
  simp only [opsC, List.mem_cons, List.not_mem_nil, or_false] at h
  rcases h with rfl | rfl <;> refine Pipeline.sub_ucRefs _ ?_ <;>
    simp only [StableHlo.unary_bufs, StableHlo.binary_bufs, Finset.insert_subset_iff, Finset.singleton_subset_iff, and_self] <;>
    refine ⟨StableHlo.devRef_mem_tcRefs _, ?_⟩ <;>
    first | exact StableHlo.devRef_mem_tcRefs _ | exact ⟨StableHlo.devRef_mem_tcRefs _, StableHlo.devRef_mem_tcRefs _⟩

theorem opsA_fresh : ∀ op ∈ opsA (F := F), op.fresh = ∅ := by
  intro op h
  simp only [opsA, List.mem_cons, List.not_mem_nil, or_false] at h
  rcases h with rfl | rfl | rfl | rfl <;> rfl
theorem opsB_fresh : ∀ op ∈ opsB (F := F), op.fresh = ∅ := by
  intro op h
  simp only [opsB, List.mem_cons, List.not_mem_nil, or_false] at h
  rcases h with rfl | rfl | rfl | rfl | rfl | rfl | rfl <;> rfl
theorem opsC_fresh : ∀ op ∈ opsC (F := F), op.fresh = ∅ := by
  intro op h
  simp only [opsC, List.mem_cons, List.not_mem_nil, or_false] at h
  rcases h with rfl | rfl <;> rfl

/-! ## The arrays' contents along the way -/

/-- The TensorCore's name of an array, as the device's. -/
abbrev dv (b : Ref sig .tc) : DevRef τ sig := Proc.devRef .tc b

variable (m : (ℓ : Loc nD τ sig) → Buf (Elt F) ℓ)

/-- At the start. -/
def atStart (d : Dev nD) : Valuation τ sig (Elt F) := fun b => m (d, b)

/-- At the SparseCore call. -/
def atCall (d : Dev nD) : Valuation τ sig (Elt F) := StableHlo.after opsA (atStart m d)

/-- The flat centres and points the SparseCores read; what their two result arrays hold before. -/
def scCen (d : Dev nD) : FVec F S12288 .f32 := atCall m d (dv main_v1)
def scPts (d : Dev nD) : FVec F S49152 .f32 := atCall m d (dv main_v3)
def scA (d : Dev nD) : IVec S4096 32 := atCall m d (dv main_v4_0)
def scB (d : Dev nD) : IVec S4096 32 := atCall m d (dv main_v4_1)

/-- After the SparseCore call. -/
def afterCall (d : Dev nD) : Valuation τ sig (Elt F) :=
  Function.update (Function.update (atCall m d) (dv main_v4_0) (rowA (scCen m d) (scPts m d))) (dv main_v4_1) (rowB (scCen m d) (scPts m d))

/-- At the region. -/
def atRegion (d : Dev nD) : Valuation τ sig (Elt F) := StableHlo.after opsB (afterCall m d)

/-- After the region. -/
def afterRegion (d : Dev nD) : Valuation τ sig (Elt F) :=
  Function.update (atRegion m d) (dv main_v12) (regionOut (fun c b => atRegion m c (dv b)) d)

/-- At the end. -/
def atEnd (d : Dev nD) : Valuation τ sig (Elt F) := StableHlo.after opsC (afterRegion m d)

end Cert.Proof

end
-- ==== Proof.Main.lean ====
/-
  The whole program's run: @main on the TensorCore, with the SparseCore call and the region, from the launch memory to
  the arrays' contents at the end.
-/
module

public import proofs.«01_k».proof.Proof.Stretches
public import Idealize.ShloMosaic.Lib.Pipeline.Frame

public import Idealize.ShloMosaic.Lib.Pipeline.FrameBody
public import Idealize.ShloMosaic.Lib.Pipeline.RegionsLoop
public import Idealize.ShloMosaic.Lib.Pipeline.ValueKit

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (held)
open Idealize.ShloMosaic.Pipeline (ucRefs)

variable {F : FTy → Type} [FloatOps F] [∀ e, Nonempty (Elt F e)]

variable (m : (ℓ : Loc nD τ sig) → Buf (Elt F) ℓ) (ρ : Dev nD → PrngReg)

/-- What the SparseCore call's signals carry, at the contents the arrays have there. -/
abbrev PP : (K (F := F)).Pay (nD := nD) (Val := Elt F) (Name := ℕ) (U := UU) := P (scCen m) (scPts m) (scA m) (scB m)

/-- The four arrays of the SparseCore call. -/
def four : Finset (DevRef τ sig) := {dv main_v1, dv main_v3, dv main_v4_0, dv main_v4_1}

theorem four_sub : four ⊆ ucRefs τ sig := by
  intro b hb
  simp only [four, Finset.mem_insert, Finset.mem_singleton] at hb
  rcases hb with rfl | rfl | rfl | rfl <;>
    exact Finset.mem_filter.mpr ⟨StableHlo.devRef_mem_tcRefs _, by decide⟩

/-- The four arrays apart from the others. -/
theorem held_four (d : Dev nD) (W : Valuation τ sig (Elt F)) :
    (held (T d) (ucRefs τ sig) W : SProp F)
      = iprop(((lC d ↦{fullShare} (W (dv main_v1) : FVec F S12288 .f32)) ∗ (lP d ↦{fullShare} (W (dv main_v3) : FVec F S49152 .f32))
          ∗ (lA d ↦{fullShare} (W (dv main_v4_0) : IVec S4096 32)) ∗ (lB d ↦{fullShare} (W (dv main_v4_1) : IVec S4096 32)))
        ∗ held (T d) (ucRefs τ sig \ four) W) := by
  rw [StableHlo.held_sub_split _ four_sub]
  congr 1
  unfold held four
  rw [SparseCore.bigSep_insert' (by decide), SparseCore.bigSep_insert' (by decide), SparseCore.bigSep_insert' (by decide), bigSep_singleton]

theorem afterCall_other (d : Dev nD) (b : DevRef τ sig) (h0 : b ≠ dv main_v4_0) (h1 : b ≠ dv main_v4_1) : afterCall m d b = atCall m d b := by
  unfold afterCall
  rw [Function.update_of_ne h1, Function.update_of_ne h0]

theorem afterCall_A (d : Dev nD) : afterCall m d (dv main_v4_0) = rowA (scCen m d) (scPts m d) := by
  unfold afterCall
  rw [Function.update_of_ne (by decide), Function.update_self]

theorem afterCall_B (d : Dev nD) : afterCall m d (dv main_v4_1) = rowB (scCen m d) (scPts m d) := by
  unfold afterCall
  rw [Function.update_self]

theorem held_rest (d : Dev nD) :
    (held (T d) (ucRefs τ sig \ four) (atCall m d) : SProp F) = held (T d) (ucRefs τ sig \ four) (afterCall m d) :=
  StableHlo.held_congr _ fun b hb => by
    have hb := (Finset.mem_sdiff.mp hb).2
    refine (afterCall_other m d b (fun h => hb ?_) fun h => hb ?_).symm <;> subst h <;> decide

/-- The SparseCore call: the two result arrays go from what they held to the two rows. -/
theorem call_step (κ : GSem nD τ sig → ℕ) (d : Dev nD) {Φ : PUnit → SProp F} :
    iprop((K (F := F)).ctx EH (PP m) κ ∗ (K (F := F)).tcSt EH d 0 ∗ held (T d) (ucRefs τ sig) (atCall m d)
        ∗ (((K (F := F)).tcSt EH d 1 ∗ held (T d) (ucRefs τ sig) (afterCall m d)) -∗ Φ ⟨⟩))
      ⊢ wp frame (wpE ((K (F := F)).defs (D (F := F))) 𝒱 (T d) none) Set.univ ((K (F := F)).run d 0) Φ := by
  have hin := dealt (scCen m d) (scPts m d) (scA m d) (scB m d) d
  have hout := dealt (scCen m d) (scPts m d) (rowA (scCen m d) (scPts m d)) (rowB (scCen m d) (scPts m d)) d
  have hr := (K (F := F)).wp_run (D (F := F)) 𝒱 (EH := EH) (P := PP m) κ d 0 (Φ := Φ)
  have e : iprop((K (F := F)).ctx EH (PP m) κ ∗ (K (F := F)).tcSt EH d 0 ∗ held (T d) (ucRefs τ sig) (atCall m d)
        ∗ (((K (F := F)).tcSt EH d 1 ∗ held (T d) (ucRefs τ sig) (afterCall m d)) -∗ Φ ⟨⟩))
      ⊢ (iprop((K (F := F)).ctx EH (PP m) κ ∗ (K (F := F)).tcSt EH d (0 : Fin 1).val
        ∗ (bigSep Finset.univ fun c : Fin ((K (F := F)).nCore 0) => (PP m).st 0 d c)
        ∗ (((K (F := F)).tcSt EH d ((0 : Fin 1).val + 1) ∗ bigSep Finset.univ fun c : Fin ((K (F := F)).nCore 0) => (PP m).dn 0 d c) -∗ Φ ⟨⟩)) : SProp F) := by
    rw [show (bigSep Finset.univ fun c : Fin ((K (F := F)).nCore 0) => (PP m).st 0 d c)
        = bigSep Finset.univ fun c : Fin 2 => corePay (scCen m d) (scPts m d) (scA m d) (scB m d) d c from rfl,
      show (bigSep Finset.univ fun c : Fin ((K (F := F)).nCore 0) => (PP m).dn 0 d c)
        = bigSep Finset.univ fun c : Fin 2 => corePay (scCen m d) (scPts m d) (rowA (scCen m d) (scPts m d)) (rowB (scCen m d) (scPts m d)) d c from rfl,
      held_four d (atCall m d), held_four d (afterCall m d), afterCall_A, afterCall_B, afterCall_other m d (dv main_v1) (by decide) (by decide),
      afterCall_other m d (dv main_v3) (by decide) (by decide), ← held_rest,
      show (atCall m d (dv main_v1) : FVec F S12288 .f32) = scCen m d from rfl, show (atCall m d (dv main_v3) : FVec F S49152 .f32) = scPts m d from rfl,
      show (atCall m d (dv main_v4_0) : IVec S4096 32) = scA m d from rfl, show (atCall m d (dv main_v4_1) : IVec S4096 32) = scB m d from rfl]
    iintro ⟨Hc, Hs, ⟨H4, Hr⟩, Hk⟩
    ihave H4 := (Entails.of_eq hin) $$ H4
    icases H4 with ⟨Hkeep, Hin⟩
    isplitl [Hc]; · iexact Hc
    isplitl [Hs]; · iexact Hs
    isplitl [Hin]; · iexact Hin
    iintro ⟨Hs, Hdn⟩
    iapply Hk
    isplitl [Hs]; · iexact Hs
    isplitr [Hr]
    · iapply (Entails.of_eq hout.symm)
      isplitl [Hkeep] <;> iassumption
    iexact Hr
  exact e.trans hr

theorem afterRegion_out (d : Dev nD) : afterRegion m d (dv main_v12) = regionOut (fun c b => atRegion m c (dv b)) d := by
  unfold afterRegion
  rw [Function.update_self]

theorem afterRegion_other (d : Dev nD) (b : Ref sig .tc) (h : b ≠ main_v12) : afterRegion m d (dv b) = atRegion m d (dv b) := by
  unfold afterRegion
  rw [Function.update_of_ne fun e => h (Proc.devRef_injective _ e)]

/-- The region, on the arrays as a set. -/
theorem region_held (d : Dev nD) :
    iprop(boundary (T d) ∗ held (T d) (ucRefs τ sig) (atRegion m d) ∗ owesNone d ∗ levAts (K (F := F)).L (K (F := F)).lev ∗ G d)
      ⊢ (wp frame (wpE ((K (F := F)).defs (D (F := F))) 𝒱 (T d) none) Set.univ
          (Prog.lift (.customCall (SparseCore.inner (Pipeline.entry 0)) ())) fun _ =>
            iprop(boundary (T d) ∗ held (T d) (ucRefs τ sig) (afterRegion m d) ∗ owesNone d) : SProp F) := by
  rw [← Pipeline.unscopedBufs_held d (atRegion m d), ← Pipeline.unscopedBufs_held d (afterRegion m d)]
  exact region_step (fun c b => atRegion m c (dv b)) (fun c b => afterRegion m c (dv b)) d (fun c => afterRegion_out m c)
    fun c b h => afterRegion_other m c b h

/-- What the TensorCore owes after the call: nothing. -/
theorem owes_after (d : Dev nD) : ((K (F := F)).tcSt EH d 1 : SProp F) ⊢ iprop(owesNone d ∗ (owesNone d -∗ (K (F := F)).tcSt EH d 1)) := by
  have h0 : (K (F := F)).Otc d 1 = 0 := by
    unfold SparseCore.Cfg.Otc
    exact Finset.sum_eq_zero fun q _ => if_neg (by omega)
  unfold SparseCore.Cfg.tcSt owesNone
  rw [h0]
  iintro ⟨HO, Hr⟩
  isplitl [HO]; · iexact HO
  iintro HO
  isplitl [HO]; · iexact HO
  iexact Hr

set_option backward.isDefEq.respectTransparency.types false in
/-- A stretch of host operations, on the arrays as a set. -/
theorem stretch (d : Dev nD) (ops : List (HloOp τ sig (Elt F))) (hS : ∀ op ∈ ops, op.bufs ⊆ ucRefs τ sig) (hf : ∀ op ∈ ops, op.fresh = ∅)
    (W : Valuation τ sig (Elt F)) (k : PUnit → Prog (TpuEff nD τ sig (Elt F) (SparseCore.Sig (ΛP (F := F)) 1) .tc) PUnit) {Q : PUnit → SProp F} :
    iprop((boundary (T d) ∗ held (T d) (ucRefs τ sig) W)
        ∗ ((boundary (T d) ∗ held (T d) (ucRefs τ sig) (StableHlo.after ops W))
          -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= k) Q := by
  have h := StableHlo.wp_seq (defs := (K (F := F)).defs (D (F := F))) 𝒱 none Set.univ d (ucRefs τ sig) k ops hS hf W (K := Q)
  iintro ⟨HA, Hk⟩
  ihave H := h $$ HA
  iapply H
  iexact Hk

/-- The launch's arrays, as a set. -/
theorem start_held (d : Dev nD) :
    (unscopedBufs d (fun b => m ((SparseCore.T d).loc b)) : SProp F) = held (T d) (ucRefs τ sig) (atStart m d) := by
  rw [← Pipeline.unscopedBufs_held d (atStart m d)]
  unfold atStart
  rfl

/-- @main on a device's TensorCore: from the launch memory to the arrays at the end. -/
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ held (T d) (ucRefs τ sig) (atEnd m d) ∗ (K (F := F)).tcEnd d) := by
  unfold SparseCore.Cfg.tcRes SparseCore.Cfg.tcEnd
  rw [main_eq, start_held]
  iintro ⟨#Hctx, Hst, ⟨Hb, Hh, Hts, -⟩, HG⟩
  ihave #HL := ((K (F := F)).ctx_levAts κ) $$ Hctx
  iapply (stretch d opsA opsA_sub opsA_fresh (atStart m d))
  isplitl [Hb Hh]; · isplitl [Hb] <;> iassumption
  iintro ⟨Hb, Hh⟩
  rw [wp_bind]
  iapply (call_step m κ d)
  isplitr; · iexact Hctx
  isplitl [Hst]; · iexact Hst
  isplitl [Hh]; · iexact Hh
  iintro ⟨Hst, Hh⟩
  iapply (stretch d opsB opsB_sub opsB_fresh (afterCall m d))
  isplitl [Hb Hh]; · isplitl [Hb] <;> iassumption
  iintro ⟨Hb, Hh⟩
  ihave Hst := (owes_after d) $$ Hst
  icases Hst with ⟨HO, Hst⟩
  rw [wp_bind]
  iapply (wp_wand frame _ _ (Q := fun _ => iprop(boundary (T d) ∗ held (T d) (ucRefs τ sig) (afterRegion m d) ∗ owesNone d))) $$ [Hb Hh HO HG]
  · iapply (region_held m d)
    isplitl [Hb]; · iexact Hb
    isplitl [Hh]; · iexact Hh
    isplitl [HO]; · iexact HO
    isplitr; · iexact HL
    iexact HG
  iintro %_ ⟨Hb, Hh, HO⟩
  ihave Hst := Hst $$ HO
  iapply (stretch d opsC opsC_sub opsC_fresh (afterRegion m d))
  isplitl [Hb Hh]; · isplitl [Hb] <;> iassumption
  iintro ⟨Hb, Hh⟩
  rw [wp_pure]
  imodintro
  isplitl [Hst]; · iexact Hst
  isplitl [Hh]; · iexact Hh
  isplitl [Hb] <;> iassumption

/-! ## The final memory -/

/-- Every array of the TensorCore's ends at its contents at the end. -/
def fq (d : Dev nD) (s' : Phys nD τ sig (Elt F)) : Prop := ∀ b ∈ ucRefs τ sig, s'.mem.mem (d, b) = atEnd m d b

set_option maxRecDepth 16384 in
theorem hfin (d : Dev nD) (s' : Phys nD τ sig (Elt F)) :
    iprop(held (T d) (ucRefs τ sig) (atEnd m d) ∗ SI s') ⊢ (⌜fq m d s'⌝ : SProp F) := by
  unfold held
  iintro ⟨H, HSI⟩
  ihave %h := (SI_pointsTo_bufs_agree (qs := fun _ => fullShare) (ucRefs τ sig)) $$ [HSI H]
  · isplitl [HSI]; · iexact HSI
    iexact H
  ipureintro
  exact h

/-- The run's end: every array as said, every semaphore at zero. -/
def QC : PUnit × MemSt nD τ sig (Elt F) → Prop := fun r =>
  (∀ d : Dev nD, ∀ b ∈ ucRefs τ sig, r.2.mem (d, b) = atEnd m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (scCen m) (scPts m) (scA m) (scB m))
    (fun q _ => match q with | 0 => SparseCore.Cfg.VecSplit.of_plain (vecSplit (scCen m) (scPts m) (scA m) (scB m)))
    m ρ main G (fun d => held (T d) (ucRefs τ sig) (atEnd m d)) (u₀ (F := F))
    (sep_elim_left.trans (dealt_ghost (scCen m) (scPts m) (scA m) (scB m))) (hmain m ρ) (fq m) (hfin m) (QC m) (fun _ h hz => ⟨h, hz⟩)

end Cert.Proof

end
-- ==== Proof.Ends.lean ====
/-
  What the program's arrays hold at the end, and the two frame claims of the kernel.
-/
module

public import proofs.«01_k».proof.Proof.Main
public import Idealize.ShloMosaic.Lib.Pipeline.Frame

public import Idealize.ShloMosaic.Lib.Pipeline.FrameBody
public import Idealize.ShloMosaic.Lib.Pipeline.RegionsLoop
public import Idealize.ShloMosaic.Lib.Pipeline.ValueKit

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (held)
open Idealize.ShloMosaic.Pipeline (ucRefs)

variable {F : FTy → Type} [FloatOps F] [∀ e, Nonempty (Elt F e)]

variable (m : (ℓ : Loc nD τ sig) → Buf (Elt F) ℓ) (ρ : Dev nD → PrngReg)

theorem opsC_writes (W : Valuation τ sig (Elt F)) {r : Ref sig .tc} (h : r ∉ [main_v13, main_v14]) :
    StableHlo.after opsC W (dv r) = W (dv r) :=
  StableHlo.after_of_writes_sub opsC W (by simp only [opsC, List.Forall, StableHlo.unary_writes, StableHlo.binary_writes, StableHlo.reshape_writes, Finset.singleton_subset_iff]; decide) h

theorem opsB_writes (W : Valuation τ sig (Elt F)) {r : Ref sig .tc}
    (h : r ∉ [main_v5, main_v6, main_v7, main_v8, main_v9, main_v10, main_v11]) :
    StableHlo.after opsB W (dv r) = W (dv r) :=
  StableHlo.after_of_writes_sub opsB W
    (by simp only [opsB, List.Forall, StableHlo.unary_writes, StableHlo.binary_writes, StableHlo.reshape_writes, Finset.singleton_subset_iff]; decide) h

theorem opsA_writes (W : Valuation τ sig (Elt F)) {r : Ref sig .tc} (h : r ∉ [main_v0, main_v1, main_v2, main_v3]) :
    StableHlo.after opsA W (dv r) = W (dv r) :=
  StableHlo.after_of_writes_sub opsA W (by simp only [opsA, List.Forall, StableHlo.unary_writes, StableHlo.binary_writes, StableHlo.reshape_writes, Finset.singleton_subset_iff]; decide) h

/-- An argument reaches the region as launched. -/
theorem region_arg (d : Dev nD) (r : Ref sig .tc) (h : r = main_arg0 ∨ r = main_arg1) : atRegion m d (dv r) = m (d, dv r) := by
  unfold atRegion
  rcases h with rfl | rfl <;>
  rw [opsB_writes _ (by decide), afterCall_other m d _ (by decide) (by decide)] <;> unfold atCall <;> rw [opsA_writes _ (by decide)] <;> rfl

/-- An argument ends as launched. -/
theorem end_arg (d : Dev nD) (r : Ref sig .tc) (h : r = main_arg0 ∨ r = main_arg1) : atEnd m d (dv r) = m (d, dv r) := by
  unfold atEnd
  rcases h with rfl | rfl <;>
  rw [opsC_writes _ (by decide), afterRegion_other m d _ (by decide), region_arg m d _ (by simp)]

theorem mem_uc (r : Ref sig .tc) (h : (dv r : DevRef τ sig).isScoped = false) : dv r ∈ ucRefs τ sig :=
  Finset.mem_filter.mpr ⟨StableHlo.devRef_mem_tcRefs _, by rw [h]; decide⟩

/-- The run: the arguments as launched, the result at its contents at the end, every semaphore at zero. -/
theorem run_ends : θ_run (Cert.KernelIdeal.defs (F := F)) (Cert.KernelIdeal.threads (F := F)) ⟨m, fun _ => 0, ρ⟩ (fun r =>
    (∀ c : Dev nD, r.2.mem ((c.tc : Thread nD τ).loc main_v14) = atEnd m c (dv main_v14)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run Cert.KernelIdeal.defs _ _).mono (fun _ h => ⟨fun c => ⟨h.1 c (dv main_v14) (mem_uc main_v14 rfl),
    (h.1 c (dv main_arg0) (mem_uc main_arg0 rfl)).trans (end_arg m c _ (Or.inl rfl)),
    (h.1 c (dv main_arg1) (mem_uc main_arg1 rfl)).trans (end_arg m c _ (Or.inr rfl))⟩, h.2⟩) (run_main m ρ)

end Cert.Proof

end
-- ==== Proof.Frames.lean ====
/-
  The kernel's frame claims: both programs have the same text, so one run serves both.
-/
module

public import proofs.«01_k».proof.Defs
public import proofs.«01_k».proof.Proof.Gen.Kernel
public import proofs.«01_k».proof.Proof.Ends

@[expose] public section

noncomputable section

namespace Cert.Proof

open Idealize.ShloMosaic Idealize.SL.Sem

theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (run_ends (F := Ideal) m ρ)

instance : Cert.Kernel.Facts := Cert.Kernel.Gen.facts
instance : Cert.KernelIdeal.Facts := Cert.KernelIdeal.Gen.facts

/-- The two programs' body tables, processor by processor. -/
theorem defs₀_eq : Cert.Kernel.defs₀ (F := Bits) = Cert.KernelIdeal.defs₀ (F := Bits) := by
  funext p ℓ a
  revert a
  match p, ℓ with
  | .tc, ⟨0, _⟩ => intro a; rfl
  | .tc, ⟨1, _⟩ => intro a; rfl
  | .scVector c s, ⟨0, _⟩ => intro a; rfl
  | .scVector c s, ⟨1, _⟩ => intro a; rfl
  | .scScalar c, ⟨0, _⟩ => intro a; rfl
  | .scScalar c, ⟨1, _⟩ => intro a; rfl

theorem defs_eq : Cert.Kernel.defs (F := Bits) = Cert.KernelIdeal.defs (F := Bits) := by
  unfold Cert.Kernel.defs Cert.KernelIdeal.defs
  rw [defs₀_eq]
  rfl

theorem frame_kernel : Cert.quiescent_Kernel (hKernel := Cert.Kernel.Gen.facts) := by
  intro m ρ _
  rw [defs_eq]
  exact (θ_run Cert.KernelIdeal.defs _ _).mono (fun _ h => ⟨fun c => (h.1 c).2, h.2⟩) (run_ends (F := Bits) m ρ)

end Cert.Proof

end
-- ==== Proof.RefRun.lean ====
/-
  The reference's run: its host operations in five stretches, and what each leaves as a function of what it reads.
-/
module

public import proofs.«01_k».proof.Defs
public import proofs.«01_k».proof.Proof.Gen.ReferenceIdeal
public import Idealize.ShloMosaic.Lib.Claim

@[expose] public section

noncomputable section

namespace Cert.Proof.Ref

open Cert.ReferenceIdeal Cert.ReferenceIdeal.Facts₀ Cert.ReferenceIdeal.Facts

open Idealize.ShloMosaic Idealize.ShloMosaic.TcCoe Idealize.SL.Sem

variable {F : FTy → Type} [FloatOps F]

instance : Cert.ReferenceIdeal.Facts := Cert.ReferenceIdeal.Gen.facts

/-- The mask of points in radius. -/
def opsMask : List (HloOp τ sig (Elt F)) :=
  [StableHlo.unary main_arg0 main_v0 ((transpose S4x2048x3 [0, 2, 1] · transposes_S4x3x2048_S4x2048x3_0_2_1) : (⟨S4x3x2048, .f32⟩ : BufTy).Contents (Elt F) → (⟨S4x2048x3, .f32⟩ : BufTy).Contents (Elt F)),
   StableHlo.unary main_arg1 main_v1 ((transpose S4x8192x3 [0, 2, 1] · transposes_S4x3x8192_S4x8192x3_0_2_1) : (⟨S4x3x8192, .f32⟩ : BufTy).Contents (Elt F) → (⟨S4x8192x3, .f32⟩ : BufTy).Contents (Elt F)),
   StableHlo.binary main_v0 main_v0 main_v2 (mulf : (⟨S4x2048x3, .f32⟩ : BufTy).Contents (Elt F) → (⟨S4x2048x3, .f32⟩ : BufTy).Contents (Elt F) → (⟨S4x2048x3, .f32⟩ : BufTy).Contents (Elt F)),
   StableHlo.nullary main_cst (constant S_ .f32 0x00000000#32),
   StableHlo.binary main_v2 main_cst main_v3 ((fun x v => Host.reduceAdd x v reducesTo_S4x2048x3_S4x2048_d2 h_S_) : (⟨S4x2048x3, .f32⟩ : BufTy).Contents (Elt F) → (⟨S_, .f32⟩ : BufTy).Contents (Elt F) → (⟨S4x2048, .f32⟩ : BufTy).Contents (Elt F)),
   StableHlo.binary main_v1 main_v1 main_v4 (mulf : (⟨S4x8192x3, .f32⟩ : BufTy).Contents (Elt F) → (⟨S4x8192x3, .f32⟩ : BufTy).Contents (Elt F) → (⟨S4x8192x3, .f32⟩ : BufTy).Contents (Elt F)),
   StableHlo.nullary main_cst_0 (constant S_ .f32 0x00000000#32),
   StableHlo.binary main_v4 main_cst_0 main_v5 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
   StableHlo.binary main_v0 main_v1 main_v6 ((fun l r => Host.dotGeneral dot_S4x2048x3_S4x8192x3_S4x2048x8192_2_2_1_1_0_0 none l r) : (⟨S4x2048x3, .f32⟩ : BufTy).Contents (Elt F) → (⟨S4x8192x3, .f32⟩ : BufTy).Contents (Elt F) → (⟨S4x2048x8192, .f32⟩ : BufTy).Contents (Elt F)),
   StableHlo.unary main_v3 main_v7 (broadcastInDim S4x2048x1 ![0, 1] bcast_S4x2048_S4x2048x1_0_1 : (⟨S4x2048, .f32⟩ : BufTy).Contents (Elt F) → (⟨S4x2048x1, .f32⟩ : BufTy).Contents (Elt F)),
   StableHlo.unary main_v5 main_v8 (broadcastInDim S4x1x8192 ![0, 2] bcast_S4x8192_S4x1x8192_0_2 : (⟨S4x8192, .f32⟩ : BufTy).Contents (Elt F) → (⟨S4x1x8192, .f32⟩ : BufTy).Contents (Elt F)),
   StableHlo.unary main_v7 main_v9 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
   StableHlo.unary main_v8 main_v10 (broadcastInDim S4x2048x8192 ![0, 1, 2] bcast_S4x1x8192_S4x2048x8192_0_1_2 : (⟨S4x1x8192, .f32⟩ : BufTy).Contents (Elt F) → (⟨S4x2048x8192, .f32⟩ : BufTy).Contents (Elt F)),
   StableHlo.binary main_v9 main_v10 main_v11 (addf : (⟨S4x2048x8192, .f32⟩ : BufTy).Contents (Elt F) → (⟨S4x2048x8192, .f32⟩ : BufTy).Contents (Elt F) → (⟨S4x2048x8192, .f32⟩ : BufTy).Contents (Elt F)),
   StableHlo.nullary main_cst_1 (constant S_ .f32 0x40000000#32),
   StableHlo.unary main_cst_1 main_v12 (broadcastInDim S4x2048x8192 ![] bcast_S_S4x2048x8192 : (⟨S_, .f32⟩ : BufTy).Contents (Elt F) → (⟨S4x2048x8192, .f32⟩ : BufTy).Contents (Elt F)),
   StableHlo.binary main_v12 main_v6 main_v13 (mulf : (⟨S4x2048x8192, .f32⟩ : BufTy).Contents (Elt F) → (⟨S4x2048x8192, .f32⟩ : BufTy).Contents (Elt F) → (⟨S4x2048x8192, .f32⟩ : BufTy).Contents (Elt F)),
   StableHlo.binary main_v11 main_v13 main_v14 (subf : (⟨S4x2048x8192, .f32⟩ : BufTy).Contents (Elt F) → (⟨S4x2048x8192, .f32⟩ : BufTy).Contents (Elt F) → (⟨S4x2048x8192, .f32⟩ : BufTy).Contents (Elt F)),
   StableHlo.nullary main_cst_2 (constant S_ .f32 0x3C23D70A#32),
   StableHlo.unary main_cst_2 main_v15 (broadcastInDim S4x2048x8192 ![] bcast_S_S4x2048x8192 : (⟨S_, .f32⟩ : BufTy).Contents (Elt F) → (⟨S4x2048x8192, .f32⟩ : BufTy).Contents (Elt F)),
   StableHlo.binary main_v14 main_v15 main_v16 (cmpf .olt : (⟨S4x2048x8192, .f32⟩ : BufTy).Contents (Elt F) → (⟨S4x2048x8192, .f32⟩ : BufTy).Contents (Elt F) → (⟨S4x2048x8192, .i1⟩ : BufTy).Contents (Elt F))]

/-- The running count of points in radius, less one, and the first point in radius. -/
def opsCount : List (HloOp τ sig (Elt F)) :=
  [StableHlo.unary main_v16 main_v17 ((extui 32 · natLt_1_32) : (⟨S4x2048x8192, .i1⟩ : BufTy).Contents (Elt F) → (⟨S4x2048x8192, .i32⟩ : BufTy).Contents (Elt F)),
   StableHlo.nullary main_call0_call0_c (constantI S_ 32 0#32),
   StableHlo.unary main_call0_call0_c main_call0_call0_v0 (broadcastInDim S_ ![] bcast_S_S_ : (⟨S_, .i32⟩ : BufTy).Contents (Elt F) → (⟨S_, .i32⟩ : BufTy).Contents (Elt F)),
   StableHlo.binary main_v17 main_call0_call0_v0 main_v18 ((fun x v => Host.reduceWindow IntOp.addi ![1, 1, 8192] ![1, 1, 1] ![0, 0, 8191] ![0, 0, 0] x v reduceWindows_S4x2048x8192_S4x2048x8192_w1s1p0_0_w1s1p0_0_w8192s1p8191_0 h_S_) : (⟨S4x2048x8192, .i32⟩ : BufTy).Contents (Elt F) → (⟨S_, .i32⟩ : BufTy).Contents (Elt F) → (⟨S4x2048x8192, .i32⟩ : BufTy).Contents (Elt F)),
   StableHlo.nullary main_c (constantI S_ 32 1#32),
   StableHlo.unary main_c main_v19 (broadcastInDim S4x2048x8192 ![] bcast_S_S4x2048x8192 : (⟨S_, .i32⟩ : BufTy).Contents (Elt F) → (⟨S4x2048x8192, .i32⟩ : BufTy).Contents (Elt F)),
   StableHlo.binary main_v18 main_v19 main_v20 (subi : (⟨S4x2048x8192, .i32⟩ : BufTy).Contents (Elt F) → (⟨S4x2048x8192, .i32⟩ : BufTy).Contents (Elt F) → (⟨S4x2048x8192, .i32⟩ : BufTy).Contents (Elt F)),
   StableHlo.nullary main_call1_v0 (iotaInDim S4x2048x8192 32 2),
   StableHlo.nullary main_call1_c (constantI S_ 1 0#1),
   StableHlo.nullary main_call1_c_0 (constantI S_ 32 0#32),
   StableHlo.quaternary main_v16 main_call1_v0 main_call1_c main_call1_c_0 main_call1_v1_0 ((fun x y u v j => (Host.reduce2 reducer_argmax_i1_i32 x y u v reducesTo_S4x2048x8192_S4x2048_d2 h_S_ j).1) : (⟨S4x2048x8192, .i1⟩ : BufTy).Contents (Elt F) → (⟨S4x2048x8192, .i32⟩ : BufTy).Contents (Elt F) → (⟨S_, .i1⟩ : BufTy).Contents (Elt F) → (⟨S_, .i32⟩ : BufTy).Contents (Elt F) → (⟨S4x2048, .i1⟩ : BufTy).Contents (Elt F)),
   StableHlo.quaternary main_v16 main_call1_v0 main_call1_c main_call1_c_0 main_v21 ((fun x y u v j => (Host.reduce2 reducer_argmax_i1_i32 x y u v reducesTo_S4x2048x8192_S4x2048_d2 h_S_ j).2) : (⟨S4x2048x8192, .i1⟩ : BufTy).Contents (Elt F) → (⟨S4x2048x8192, .i32⟩ : BufTy).Contents (Elt F) → (⟨S_, .i1⟩ : BufTy).Contents (Elt F) → (⟨S_, .i32⟩ : BufTy).Contents (Elt F) → (⟨S4x2048, .i32⟩ : BufTy).Contents (Elt F))]

/-- The first slot. -/
def opsSlot0 : List (HloOp τ sig (Elt F)) :=
  [StableHlo.nullary main_c_3 (constantI S_ 32 0#32),
   StableHlo.unary main_c_3 main_v22 (broadcastInDim S4x2048x8192 ![] bcast_S_S4x2048x8192 : (⟨S_, .i32⟩ : BufTy).Contents (Elt F) → (⟨S4x2048x8192, .i32⟩ : BufTy).Contents (Elt F)),
   StableHlo.binary main_v20 main_v22 main_v23 (cmpi .eq : (⟨S4x2048x8192, .i32⟩ : BufTy).Contents (Elt F) → (⟨S4x2048x8192, .i32⟩ : BufTy).Contents (Elt F) → (⟨S4x2048x8192, .i1⟩ : BufTy).Contents (Elt F)),
   StableHlo.binary main_v16 main_v23 main_v24 (andi : (⟨S4x2048x8192, .i1⟩ : BufTy).Contents (Elt F) → (⟨S4x2048x8192, .i1⟩ : BufTy).Contents (Elt F) → (⟨S4x2048x8192, .i1⟩ : BufTy).Contents (Elt F)),
   StableHlo.nullary main_c_4 (constantI S_ 1 0#1),
   StableHlo.binary main_v24 main_c_4 main_v25 ((fun x v => Host.reduce IntOp.ori x v reducesTo_S4x2048x8192_S4x2048_d2 h_S_) : (⟨S4x2048x8192, .i1⟩ : BufTy).Contents (Elt F) → (⟨S_, .i1⟩ : BufTy).Contents (Elt F) → (⟨S4x2048, .i1⟩ : BufTy).Contents (Elt F)),
   StableHlo.nullary main_call2_v0 (iotaInDim S4x2048x8192 32 2),
   StableHlo.nullary main_call2_c (constantI S_ 1 0#1),
   StableHlo.nullary main_call2_c_0 (constantI S_ 32 0#32),
   StableHlo.quaternary main_v24 main_call2_v0 main_call2_c main_call2_c_0 main_call2_v1_0 ((fun x y u v j => (Host.reduce2 reducer_argmax_i1_i32 x y u v reducesTo_S4x2048x8192_S4x2048_d2 h_S_ j).1) : (⟨S4x2048x8192, .i1⟩ : BufTy).Contents (Elt F) → (⟨S4x2048x8192, .i32⟩ : BufTy).Contents (Elt F) → (⟨S_, .i1⟩ : BufTy).Contents (Elt F) → (⟨S_, .i32⟩ : BufTy).Contents (Elt F) → (⟨S4x2048, .i1⟩ : BufTy).Contents (Elt F)),
   StableHlo.quaternary main_v24 main_call2_v0 main_call2_c main_call2_c_0 main_v26 ((fun x y u v j => (Host.reduce2 reducer_argmax_i1_i32 x y u v reducesTo_S4x2048x8192_S4x2048_d2 h_S_ j).2) : (⟨S4x2048x8192, .i1⟩ : BufTy).Contents (Elt F) → (⟨S4x2048x8192, .i32⟩ : BufTy).Contents (Elt F) → (⟨S_, .i1⟩ : BufTy).Contents (Elt F) → (⟨S_, .i32⟩ : BufTy).Contents (Elt F) → (⟨S4x2048, .i32⟩ : BufTy).Contents (Elt F)),
   StableHlo.ternary main_v25 main_v26 main_v21 main_v27 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F))]

/-- The second slot. -/
def opsSlot1 : List (HloOp τ sig (Elt F)) :=
  [StableHlo.nullary main_c_5 (constantI S_ 32 1#32),
   StableHlo.unary main_c_5 main_v28 (broadcastInDim S4x2048x8192 ![] bcast_S_S4x2048x8192 : (⟨S_, .i32⟩ : BufTy).Contents (Elt F) → (⟨S4x2048x8192, .i32⟩ : BufTy).Contents (Elt F)),
   StableHlo.binary main_v20 main_v28 main_v29 (cmpi .eq : (⟨S4x2048x8192, .i32⟩ : BufTy).Contents (Elt F) → (⟨S4x2048x8192, .i32⟩ : BufTy).Contents (Elt F) → (⟨S4x2048x8192, .i1⟩ : BufTy).Contents (Elt F)),
   StableHlo.binary main_v16 main_v29 main_v30 (andi : (⟨S4x2048x8192, .i1⟩ : BufTy).Contents (Elt F) → (⟨S4x2048x8192, .i1⟩ : BufTy).Contents (Elt F) → (⟨S4x2048x8192, .i1⟩ : BufTy).Contents (Elt F)),
   StableHlo.nullary main_c_6 (constantI S_ 1 0#1),
   StableHlo.binary main_v30 main_c_6 main_v31 ((fun x v => Host.reduce IntOp.ori x v reducesTo_S4x2048x8192_S4x2048_d2 h_S_) : (⟨S4x2048x8192, .i1⟩ : BufTy).Contents (Elt F) → (⟨S_, .i1⟩ : BufTy).Contents (Elt F) → (⟨S4x2048, .i1⟩ : BufTy).Contents (Elt F)),
   StableHlo.nullary main_call4_v0 (iotaInDim S4x2048x8192 32 2),
   StableHlo.nullary main_call4_c (constantI S_ 1 0#1),
   StableHlo.nullary main_call4_c_0 (constantI S_ 32 0#32),
   StableHlo.quaternary main_v30 main_call4_v0 main_call4_c main_call4_c_0 main_call4_v1_0 ((fun x y u v j => (Host.reduce2 reducer_argmax_i1_i32 x y u v reducesTo_S4x2048x8192_S4x2048_d2 h_S_ j).1) : (⟨S4x2048x8192, .i1⟩ : BufTy).Contents (Elt F) → (⟨S4x2048x8192, .i32⟩ : BufTy).Contents (Elt F) → (⟨S_, .i1⟩ : BufTy).Contents (Elt F) → (⟨S_, .i32⟩ : BufTy).Contents (Elt F) → (⟨S4x2048, .i1⟩ : BufTy).Contents (Elt F)),
   StableHlo.quaternary main_v30 main_call4_v0 main_call4_c main_call4_c_0 main_v32 ((fun x y u v j => (Host.reduce2 reducer_argmax_i1_i32 x y u v reducesTo_S4x2048x8192_S4x2048_d2 h_S_ j).2) : (⟨S4x2048x8192, .i1⟩ : BufTy).Contents (Elt F) → (⟨S4x2048x8192, .i32⟩ : BufTy).Contents (Elt F) → (⟨S_, .i1⟩ : BufTy).Contents (Elt F) → (⟨S_, .i32⟩ : BufTy).Contents (Elt F) → (⟨S4x2048, .i32⟩ : BufTy).Contents (Elt F)),
   StableHlo.ternary main_v31 main_v32 main_v21 main_v33 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F))]

/-- The two slots side by side. -/
def opsOut : List (HloOp τ sig (Elt F)) :=
  [StableHlo.unary main_v27 main_v34 (broadcastInDim S4x2048x1 ![0, 1] bcast_S4x2048_S4x2048x1_0_1 : (⟨S4x2048, .i32⟩ : BufTy).Contents (Elt F) → (⟨S4x2048x1, .i32⟩ : BufTy).Contents (Elt F)),
   StableHlo.unary main_v33 main_v35 (broadcastInDim S4x2048x1 ![0, 1] bcast_S4x2048_S4x2048x1_0_1 : (⟨S4x2048, .i32⟩ : BufTy).Contents (Elt F) → (⟨S4x2048x1, .i32⟩ : BufTy).Contents (Elt F)),
   StableHlo.binary main_v34 main_v35 main_v36 ((fun a b => concatenate S4x2048x2 2 [⟨S4x2048x1, a⟩, ⟨S4x2048x1, b⟩] concatenates_S4x2048x1_S4x2048x1_S4x2048x2_d2) : (⟨S4x2048x1, .i32⟩ : BufTy).Contents (Elt F) → (⟨S4x2048x1, .i32⟩ : BufTy).Contents (Elt F) → (⟨S4x2048x2, .i32⟩ : BufTy).Contents (Elt F))]

attribute [local irreducible] Host.reduceWindow Host.reduce2 Host.reduce

set_option maxRecDepth 16384 in
/-- The program is the five stretches in a row. -/
theorem main_eq (d : Dev nD) : main (F := F) d = StableHlo.seq (opsMask ++ (opsCount ++ (opsSlot0 ++ (opsSlot1 ++ opsOut)))) := by
  simp only [main, fn_cumsum.body, fn_cumsum_0.body, fn_argmax.body, fn_where.body, bind_assoc, pure_bind]
  simp only [opsMask, opsCount, opsSlot0, opsSlot1, opsOut, List.cons_append, List.nil_append]
  repeat (first | refine StableHlo.IsSeq.cons ?_ | exact StableHlo.IsSeq.nil)

end Cert.Proof.Ref

end
-- ==== Proof.RefVals.lean ====
/-
  What the reference's run leaves in its result, as a function of its two arguments.
-/
module

public import proofs.«01_k».proof.Proof.RefRun

@[expose] public section

noncomputable section

namespace Cert.Proof.Ref

open Cert.ReferenceIdeal Cert.ReferenceIdeal.Facts₀ Cert.ReferenceIdeal.Facts

open Idealize.ShloMosaic Idealize.ShloMosaic.TcCoe Idealize.SL.Sem

variable {F : FTy → Type} [FloatOps F]

attribute [local irreducible] Host.reduceWindow Host.reduce2 Host.reduce

abbrev rv (b : Ref sig .tc) : DevRef τ sig := Proc.devRef .tc b

/-! ## The stages as functions -/

/-- The squared distances of centres (transposed to rows) `c` and points `p`. -/
def distR (c : FVec F S4x2048x3 .f32) (p : FVec F S4x8192x3 .f32) : FVec F S4x2048x8192 .f32 :=
  subf
    (addf
      (broadcastInDim S4x2048x8192 ![0, 1, 2] bcast_S4x2048x1_S4x2048x8192_0_1_2
        (broadcastInDim S4x2048x1 ![0, 1] bcast_S4x2048_S4x2048x1_0_1
          (Host.reduceAdd (mulf c c) (constant S_ .f32 0x00000000#32) reducesTo_S4x2048x3_S4x2048_d2 h_S_)))
      (broadcastInDim S4x2048x8192 ![0, 1, 2] bcast_S4x1x8192_S4x2048x8192_0_1_2
        (broadcastInDim S4x1x8192 ![0, 2] bcast_S4x8192_S4x1x8192_0_2
          (Host.reduceAdd (mulf p p) (constant S_ .f32 0x00000000#32) reducesTo_S4x8192x3_S4x8192_d2 h_S_))))
    (mulf (broadcastInDim S4x2048x8192 ![] bcast_S_S4x2048x8192 (constant S_ .f32 0x40000000#32))
      (Host.dotGeneral dot_S4x2048x3_S4x8192x3_S4x2048x8192_2_2_1_1_0_0 none c p))

/-- The mask of points in radius. -/
def maskR (x : FVec F S4x3x2048 .f32) (h : FVec F S4x3x8192 .f32) : IVec S4x2048x8192 1 :=
  cmpf .olt
    (distR (transpose S4x2048x3 [0, 2, 1] x transposes_S4x3x2048_S4x2048x3_0_2_1)
      (transpose S4x8192x3 [0, 2, 1] h transposes_S4x3x8192_S4x8192x3_0_2_1))
    (broadcastInDim S4x2048x8192 ![] bcast_S_S4x2048x8192 (constant (F := F) S_ .f32 0x3C23D70A#32))

/-- The running count along the points, less one. -/
def countR (mk : IVec S4x2048x8192 1) : IVec S4x2048x8192 32 :=
  subi
    (Host.reduceWindow IntOp.addi ![1, 1, 8192] ![1, 1, 1] ![0, 0, 8191] ![0, 0, 0] (extui 32 mk natLt_1_32)
      (broadcastInDim S_ ![] bcast_S_S_ (constantI S_ 32 0#32))
      reduceWindows_S4x2048x8192_S4x2048x8192_w1s1p0_0_w1s1p0_0_w8192s1p8191_0 h_S_)
    (broadcastInDim S4x2048x8192 ![] bcast_S_S4x2048x8192 (constantI S_ 32 1#32))

/-- The first point a mask holds. -/
def argR (mk : IVec S4x2048x8192 1) : IVec S4x2048 32 := fun j =>
  (Host.reduce2 reducer_argmax_i1_i32 mk (iotaInDim S4x2048x8192 32 2) (constantI S_ 1 0#1) (constantI S_ 32 0#32)
    reducesTo_S4x2048x8192_S4x2048_d2 h_S_ j).2

/-- The points of the mask whose count is `s`. -/
def selR (mk : IVec S4x2048x8192 1) (cnt : IVec S4x2048x8192 32) (s : BitVec 32) : IVec S4x2048x8192 1 :=
  andi mk (cmpi .eq cnt (broadcastInDim S4x2048x8192 ![] bcast_S_S4x2048x8192 (constantI S_ 32 s)))

/-- A slot: the point whose count is `s`, or the first point. -/
def slotR (mk : IVec S4x2048x8192 1) (cnt : IVec S4x2048x8192 32) (first : IVec S4x2048 32) (s : BitVec 32) : IVec S4x2048 32 :=
  select (Host.reduce IntOp.ori (selR mk cnt s) (constantI S_ 1 0#1) reducesTo_S4x2048x8192_S4x2048_d2 h_S_)
    (argR (selR mk cnt s)) first

/-- The two slots side by side. -/
def outR (a b : IVec S4x2048 32) : IVec S4x2048x2 32 :=
  concatenate S4x2048x2 2 [⟨S4x2048x1, broadcastInDim S4x2048x1 ![0, 1] bcast_S4x2048_S4x2048x1_0_1 a⟩,
    ⟨S4x2048x1, broadcastInDim S4x2048x1 ![0, 1] bcast_S4x2048_S4x2048x1_0_1 b⟩] concatenates_S4x2048x1_S4x2048x1_S4x2048x2_d2

/-- The whole of it. -/
def resR (mk : IVec S4x2048x8192 1) : IVec S4x2048x2 32 :=
  outR (slotR mk (countR mk) (argR mk) 0#32) (slotR mk (countR mk) (argR mk) 1#32)

/-! ## Each stretch's reads -/

variable (V : Valuation τ sig (Elt F))

theorem mask_reads : StableHlo.after opsMask V (rv main_v16) = maskR (F := F) (V (rv main_arg0)) (V (rv main_arg1)) := by
  simp only [opsMask, rv]
  after_results_simp
  rfl

theorem count_reads_mask : StableHlo.after opsCount V (rv main_v16) = V (rv main_v16) := by
  simp only [opsCount, rv]
  after_results_simp

theorem count_reads : StableHlo.after opsCount V (rv main_v20) = countR (V (rv main_v16)) := by
  simp only [opsCount, rv]
  after_results_simp
  rfl

theorem first_reads : StableHlo.after opsCount V (rv main_v21) = argR (V (rv main_v16)) := by
  simp only [opsCount, rv]
  after_results_simp
  rfl

theorem slot0_reads : StableHlo.after opsSlot0 V (rv main_v27)
    = slotR (V (rv main_v16)) (V (rv main_v20)) (V (rv main_v21)) 0#32 := by
  simp only [opsSlot0, rv]
  after_results_simp
  rfl

theorem slot0_keeps (b : Ref sig .tc) (h : b = main_v16 ∨ b = main_v20 ∨ b = main_v21) :
    StableHlo.after opsSlot0 V (rv b) = V (rv b) := by
  rcases h with rfl | rfl | rfl <;> simp only [opsSlot0, rv] <;> after_results_simp

theorem slot1_reads : StableHlo.after opsSlot1 V (rv main_v33)
    = slotR (V (rv main_v16)) (V (rv main_v20)) (V (rv main_v21)) 1#32 := by
  simp only [opsSlot1, rv]
  after_results_simp
  rfl

theorem slot1_keeps : StableHlo.after opsSlot1 V (rv main_v27) = V (rv main_v27) := by
  simp only [opsSlot1, rv]
  after_results_simp

theorem out_reads : StableHlo.after opsOut V (rv main_v36) = outR (V (rv main_v27)) (V (rv main_v33)) := by
  simp only [opsOut, rv]
  after_results_simp
  rfl

/-- All five stretches. -/
abbrev opsAll : List (HloOp τ sig (Elt F)) := opsMask ++ (opsCount ++ (opsSlot0 ++ (opsSlot1 ++ opsOut)))

theorem all_reads : StableHlo.after opsAll V (rv main_v36) = resR (maskR (F := F) (V (rv main_arg0)) (V (rv main_arg1))) := by
  simp only [opsAll, StableHlo.after_append]
  rw [out_reads, slot1_keeps, slot1_reads, slot0_reads, slot0_keeps _ _ (Or.inl rfl), slot0_keeps _ _ (Or.inr (Or.inl rfl)),
    slot0_keeps _ _ (Or.inr (Or.inr rfl)), count_reads_mask, count_reads, first_reads, mask_reads]
  rfl

theorem all_keeps (b : Ref sig .tc) (h : b = main_arg0 ∨ b = main_arg1) : StableHlo.after opsAll V (rv b) = V (rv b) := by
  simp only [opsAll, StableHlo.after_append]
  rcases h with rfl | rfl <;> simp only [opsMask, opsCount, opsSlot0, opsSlot1, opsOut, rv] <;> after_results_simp

/-- The reference's run. -/
theorem run_ref (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v36)
          = resR (maskR (F := F) (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  θ_run_mono (StableHlo.run_hlo (ops := opsAll) defs main (fun d => main_eq d) (by decide) (by decide)
      (by simp [opsAll, opsMask, opsCount, opsSlot0, opsSlot1, opsOut])
      (by intro _ h; (repeat (cases h with | head => rfl | tail _ h => ?_)); exact nomatch h) m ρ)
    fun r h => ⟨fun c => ⟨(h c main_v36).trans (all_reads _), (h c main_arg0).trans (all_keeps _ _ (Or.inl rfl)),
      (h c main_arg1).trans (all_keeps _ _ (Or.inr rfl))⟩, sem_eq_zero_of_no_sems (by decide) r.2⟩

theorem frame_ref : Cert.quiescent_ReferenceIdeal := fun m g _ =>
  θ_run_mono (run_ref m g) fun _ h => ⟨fun c => (h.1 c).2, h.2⟩

end Cert.Proof.Ref

end
-- ==== Proof.RefSlots.lean ====
/-
  What the reference's integer operations compute for one centre: its two slots are those of the mask's row.
-/
module

public import proofs.«01_k».proof.Proof.RefVals
public import proofs.«01_k».proof.Proof.Slots
public import Idealize.ShloMosaic.Lib.Routing.Ops

@[expose] public section

noncomputable section

namespace Cert.Proof.Ref

open Cert.ReferenceIdeal Cert.ReferenceIdeal.Facts₀ Cert.ReferenceIdeal.Facts

open Idealize.ShloMosaic Idealize.ShloMosaic.TcCoe Idealize.SL.Sem
open Idealize.ShloMosaic.ValueIdx (ix2 ix3)

attribute [local irreducible] Host.reduceWindow Host.reduce2 Host.reduce

/-! ## Indices -/

abbrev i3 (b : Fin 4) (n : Fin 2048) (p : Fin 8192) : S4x2048x8192.Idx := ix3 b n p
abbrev i2 (b : Fin 4) (n : Fin 2048) : S4x2048.Idx := ix2 b n

theorem drop_iff (b : Fin 4) (n : Fin 2048) (i : S4x2048x8192.Idx) :
    (reducesTo_S4x2048x8192_S4x2048_d2 : S4x2048x8192.ReducesTo [2] S4x2048).drop i = i2 b n ↔ ∃ p, i = i3 b n p := by
  have e0 := Shape.ReducesTo.drop_apply_val_of_eq (reducesTo_S4x2048x8192_S4x2048_d2 : S4x2048x8192.ReducesTo [2] S4x2048) i 0 0
  have e1 := Shape.ReducesTo.drop_apply_val_of_eq (reducesTo_S4x2048x8192_S4x2048_d2 : S4x2048x8192.ReducesTo [2] S4x2048) i 1 1
  constructor
  · intro h
    refine ⟨i 2, funext fun a => Fin.ext ?_⟩
    rw [h] at e0 e1
    match a with
    | ⟨0, _⟩ => exact e0.symm
    | ⟨1, _⟩ => exact e1.symm
    | ⟨2, _⟩ => rfl
  · rintro ⟨p, rfl⟩
    refine funext fun a => Fin.ext ?_
    match a with
    | ⟨0, _⟩ => exact e0
    | ⟨1, _⟩ => exact e1

/-! ## The first point of a mask -/

/-- `r` is the best pair of the list `l`: the pair of the least set number, or zeros. -/
def Best (l : List (BitVec 1 × BitVec 32)) (r : BitVec 1 × BitVec 32) : Prop :=
  (r.1 = 0#1 ∧ r.2 = 0#32 ∧ ∀ q ∈ l, q.1 = 0#1) ∨
  (r.1 = 1#1 ∧ r ∈ l ∧ ∀ q ∈ l, q.1 = 1#1 → r.2.toNat ≤ q.2.toNat)

theorem bit (v : BitVec 1) : v = 0#1 ∨ v = 1#1 := by
  revert v; decide

theorem slt_small {a b : BitVec 32} (ha : a.toNat < 2 ^ 31) (hb : b.toNat < 2 ^ 31) :
    IntOp.cmpi .slt a b = if a.toNat < b.toNat then 1#1 else 0#1 := by
  have ea : a.toInt = a.toNat := BitVec.toInt_eq_toNat_of_lt (by omega)
  have eb : b.toInt = b.toNat := BitVec.toInt_eq_toNat_of_lt (by omega)
  simp only [IntOp.cmpi, BitVec.slt, ea, eb, Nat.cast_lt]
  by_cases h : a.toNat < b.toNat <;> simp [h]

/-- The test that keeps the first value, and the one that keeps the first number. -/
def keepV (a b : BitVec 1) : BitVec 1 := IntOp.ori (IntOp.cmpi .ugt a b) (IntOp.cmpi .ne a a)
def keepN (a b w : BitVec 1) : BitVec 1 := IntOp.ori (keepV a b) (IntOp.andi (IntOp.cmpi .eq a b) w)

theorem red_eq (a b : BitVec 1 × BitVec 32) : reducer_argmax_i1_i32 a b
    = (Scalar.select (keepV a.1 b.1) a.1 b.1, Scalar.select (keepN a.1 b.1 (IntOp.cmpi .slt a.2 b.2)) a.2 b.2) := rfl

theorem keepV00 : keepV 0#1 0#1 = 0#1 := by decide
theorem keepV01 : keepV 0#1 1#1 = 0#1 := by decide
theorem keepV10 : keepV 1#1 0#1 = 1#1 := by decide
theorem keepV11 : keepV 1#1 1#1 = 0#1 := by decide
theorem keepN00 (w : BitVec 1) : keepN 0#1 0#1 w = w := by revert w; decide
theorem keepN01 (w : BitVec 1) : keepN 0#1 1#1 w = 0#1 := by revert w; decide
theorem keepN10 (w : BitVec 1) : keepN 1#1 0#1 w = 1#1 := by revert w; decide
theorem keepN11 (w : BitVec 1) : keepN 1#1 1#1 w = w := by revert w; decide

theorem sel1 {α : Type} (a b : α) : Scalar.select 1#1 a b = a := rfl
theorem sel0 {α : Type} (a b : α) : Scalar.select 0#1 a b = b := rfl

theorem sel_if {α : Type} (p : Prop) [Decidable p] (a b : α) : Scalar.select (if p then 1#1 else 0#1) a b = if p then a else b := by
  split_ifs <;> rfl

theorem step_best {pre : List (BitVec 1 × BitVec 32)} {r q : BitVec 1 × BitVec 32} (hq : q.2.toNat < 2 ^ 31)
    (hpre : ∀ p ∈ pre, p.2.toNat < 2 ^ 31) (h : Best pre r) : Best (pre ++ [q]) (reducer_argmax_i1_i32 r q) := by
  obtain ⟨r1, r2⟩ := r
  obtain ⟨q1, q2⟩ := q
  rw [red_eq]
  dsimp only at hq ⊢
  rcases h with ⟨h1, h2, h3⟩ | ⟨h1, h2, h3⟩
  · dsimp only at h1 h2
    subst h1 h2
    rcases bit q1 with rfl | rfl
    · left
      rw [keepV00, keepN00, slt_small (by decide) hq, sel_if]
      refine ⟨rfl, ?_, ?_⟩
      · dsimp only
        split_ifs with hz
        · rfl
        · exact BitVec.eq_of_toNat_eq (by simpa using hz)
      · intro p hp
        rcases List.mem_append.mp hp with hp | hp
        · exact h3 p hp
        · rw [List.mem_singleton.mp hp]
    · right
      rw [keepV01, keepN01, sel0, sel0]
      refine ⟨rfl, by simp, fun p hp hp1 => ?_⟩
      rcases List.mem_append.mp hp with hp | hp
      · rw [h3 p hp] at hp1; exact absurd hp1 (by decide)
      · rw [List.mem_singleton.mp hp]
  · dsimp only at h1
    subst h1
    right
    rcases bit q1 with rfl | rfl
    · rw [keepV10, keepN10, sel1, sel1]
      refine ⟨rfl, List.mem_append_left _ h2, fun p hp hp1 => ?_⟩
      rcases List.mem_append.mp hp with hp | hp
      · exact h3 p hp hp1
      · rw [List.mem_singleton.mp hp] at hp1
        have : (0#1 : BitVec 1) = 1#1 := hp1
        exact absurd this (by decide)
    · rw [keepV11, keepN11, slt_small (hpre _ h2) hq, sel_if, sel0]
      refine ⟨rfl, ?_, fun p hp hp1 => ?_⟩
      · split_ifs
        · exact List.mem_append_left _ h2
        · simp
      · show (if r2.toNat < q2.toNat then r2 else q2).toNat ≤ p.2.toNat
        rcases List.mem_append.mp hp with hp | hp
        · have := h3 p hp hp1
          dsimp only at this
          split_ifs <;> omega
        · rw [List.mem_singleton.mp hp]
          dsimp only
          split_ifs <;> omega

theorem fold_best (l pre : List (BitVec 1 × BitVec 32)) (r : BitVec 1 × BitVec 32) (hl : ∀ p ∈ l, p.2.toNat < 2 ^ 31)
    (hpre : ∀ p ∈ pre, p.2.toNat < 2 ^ 31) (h : Best pre r) : Best (pre ++ l) (l.foldl reducer_argmax_i1_i32 r) := by
  induction l generalizing pre r with
  | nil => simpa using h
  | cons q l ih =>
    have := ih (pre ++ [q]) (reducer_argmax_i1_i32 r q) (fun p hp => hl p (List.mem_cons_of_mem _ hp))
      (fun p hp => (List.mem_append.mp hp).elim (hpre p) fun hp => by
        rw [List.mem_singleton.mp hp]; exact hl q List.mem_cons_self)
      (step_best (hl q List.mem_cons_self) hpre h)
    simpa using this

theorem reduce2_best {s t u : Shape} {axes : List (Fin s.rank)} (x : IVec s 1) (y : IVec s 32) (h : s.ReducesTo axes t) (hu : 0 < u.numel)
    (j : t.Idx) (hy : ∀ i, (y i).toNat < 2 ^ 31) :
    Best (Host.argReduceFiber x y h j) (Host.reduce2 reducer_argmax_i1_i32 x y (constantI u 1 0#1) (constantI u 32 0#32) h hu j) := by
  rw [Host.reduce2_eq_foldl_fiber]
  have H := fold_best (Host.argReduceFiber x y h j) [] (0#1, 0#32) (fun p hp => by
    unfold Host.argReduceFiber at hp
    obtain ⟨n, _, rfl⟩ := List.mem_map.mp hp
    exact hy _) (by simp) (.inl ⟨rfl, rfl, by simp⟩)
  rw [List.nil_append] at H
  exact H

theorem mem_fiber (mk : IVec S4x2048x8192 1) (b : Fin 4) (n : Fin 2048) (q : BitVec 1 × BitVec 32) :
    q ∈ Host.argReduceFiber mk (iotaInDim S4x2048x8192 32 2) (reducesTo_S4x2048x8192_S4x2048_d2 : S4x2048x8192.ReducesTo [2] S4x2048) (i2 b n)
      ↔ ∃ p : Fin 8192, q = (mk (i3 b n p), BitVec.ofNat 32 p.val) := by
  unfold Host.argReduceFiber
  simp only [List.mem_map, List.mem_filter, List.mem_finRange, true_and, decide_eq_true_eq, drop_iff]
  constructor
  · rintro ⟨k, ⟨p, e⟩, rfl⟩
    refine ⟨p, ?_⟩
    rw [e]
    rfl
  · rintro ⟨p, rfl⟩
    refine ⟨S4x2048x8192.rowMajor (i3 b n p), ⟨p, by rw [Equiv.symm_apply_apply]⟩, ?_⟩
    rw [Equiv.symm_apply_apply]
    rfl

theorem ofNat_small {p : ℕ} (h : p < 8192) : (BitVec.ofNat 32 p).toNat = p := by
  rw [BitVec.toNat_ofNat]; omega

theorem iota_small (i : S4x2048x8192.Idx) : (iotaInDim S4x2048x8192 32 2 i).toNat < 2 ^ 31 := by
  have h : (i 2).val < 8192 := (i 2).isLt
  show (BitVec.ofNat 32 (i 2).val).toNat < 2 ^ 31
  rw [ofNat_small h]
  omega

theorem best_row {N : ℕ} (hN : N ≤ 8192) (row : Fin N → BitVec 1) (L : List (BitVec 1 × BitVec 32)) (r : BitVec 1 × BitVec 32)
    (hm : ∀ q, q ∈ L ↔ ∃ p : Fin N, q = (row p, BitVec.ofNat 32 p.val)) (H : Best L r) :
    (r.2 = 0#32 ∧ ∀ p, row p = 0#1) ∨
    (∃ p : Fin N, r.2 = BitVec.ofNat 32 p.val ∧ row p = 1#1 ∧ ∀ q, row q = 1#1 → p.val ≤ q.val) := by
  rcases H with ⟨_, h2, h3⟩ | ⟨h1, h2, h3⟩
  · exact .inl ⟨h2, fun p => h3 _ ((hm _).mpr ⟨p, rfl⟩)⟩
  · obtain ⟨p, rfl⟩ := (hm _).mp h2
    refine .inr ⟨p, rfl, h1, fun q hq => ?_⟩
    have := h3 _ ((hm _).mpr ⟨q, rfl⟩) hq
    rw [ofNat_small (p.isLt.trans_le hN), ofNat_small (q.isLt.trans_le hN)] at this
    exact this

theorem argR_def (mk : IVec S4x2048x8192 1) : argR mk = fun j => (Host.reduce2 reducer_argmax_i1_i32 mk (iotaInDim S4x2048x8192 32 2)
    (constantI S_ 1 0#1) (constantI S_ 32 0#32) reducesTo_S4x2048x8192_S4x2048_d2 h_S_ j).2 := rfl

/-- The first point a mask's row holds, or zero. -/
theorem argR_spec (mk : IVec S4x2048x8192 1) (b : Fin 4) (n : Fin 2048) :
    (argR mk (i2 b n) = 0#32 ∧ ∀ p, mk (i3 b n p) = 0#1) ∨
    (∃ p : Fin 8192, argR mk (i2 b n) = BitVec.ofNat 32 p.val ∧ mk (i3 b n p) = 1#1 ∧ ∀ q, mk (i3 b n q) = 1#1 → p.val ≤ q.val) := by
  rw [argR_def]
  exact best_row le_rfl (fun p => mk (i3 b n p)) _ _ (mem_fiber mk b n)
    (reduce2_best mk (iotaInDim S4x2048x8192 32 2) reducesTo_S4x2048x8192_S4x2048_d2 h_S_ (i2 b n) iota_small)

/-! ## Whether a mask's row holds any -/

theorem foldl_ori {ι : Type} (l : List ι) (x : ι → BitVec 1) (v : BitVec 1) :
    l.foldl (fun r i => IntOp.ori r (x i)) v = 1#1 ↔ v = 1#1 ∨ ∃ i ∈ l, x i = 1#1 := by
  induction l generalizing v with
  | nil => simp
  | cons a l ih =>
    rw [List.foldl_cons, ih]
    have : IntOp.ori v (x a) = 1#1 ↔ v = 1#1 ∨ x a = 1#1 := by
      generalize x a = w
      revert v w; decide
    rw [this]
    simp [or_assoc]

theorem any_spec (mk : IVec S4x2048x8192 1) (b : Fin 4) (n : Fin 2048) :
    Host.reduce IntOp.ori mk (constantI S_ 1 0#1) reducesTo_S4x2048x8192_S4x2048_d2 h_S_ (i2 b n) = 1#1
      ↔ ∃ p, mk (i3 b n p) = 1#1 := by
  rw [Host.reduce_eq_foldl, foldl_ori]
  simp only [List.mem_filter, List.mem_map, List.mem_finRange, true_and, decide_eq_true_eq, drop_iff]
  constructor
  · rintro (h | ⟨i, ⟨_, p, rfl⟩, h⟩)
    · exact absurd h (by decide)
    · exact ⟨p, h⟩
  · rintro ⟨p, h⟩
    exact .inr ⟨i3 b n p, ⟨⟨S4x2048x8192.rowMajor (i3 b n p), Equiv.symm_apply_apply _ _⟩, p, rfl⟩, h⟩

end Cert.Proof.Ref

end
-- ==== Proof.RefCount.lean ====
/-
  The reference's running count, and its two slots as the two slots of the mask's row.
-/
module

public import proofs.«01_k».proof.Proof.RefSlots
public import Idealize.ShloMosaic.Lib.Pipeline.Value

@[expose] public section

noncomputable section

namespace Cert.Proof.Ref

open Cert.ReferenceIdeal Cert.ReferenceIdeal.Facts₀ Cert.ReferenceIdeal.Facts

open Idealize.ShloMosaic Idealize.ShloMosaic.TcCoe Idealize.SL.Sem
open Idealize.ShloMosaic.ValueIdx (ix2 ix3)

attribute [local irreducible] Host.reduceWindow Host.reduce2 Host.reduce

/-! ## The running sum -/

theorem numel_win (N : ℕ) : (⟨3, ![1, 1, N]⟩ : Shape).numel = N := by
  show ∏ a : Fin 3, (![1, 1, N] : Fin 3 → Nat) a = N
  rw [Fin.prod_univ_three]
  show 1 * 1 * N = N
  omega

theorem symm_win {N : ℕ} (n : Fin (⟨3, ![1, 1, N]⟩ : Shape).numel) :
    (⟨3, ![1, 1, N]⟩ : Shape).rowMajor.symm n = ix3 (0 : Fin 1) (0 : Fin 1) (n.cast (numel_win N)) :=
  ((⟨3, ![1, 1, N]⟩ : Shape).rowMajor.symm_apply_eq).2 (Fin.ext (by
    rw [Shape.rowMajor_val_three]
    show n.val = (0 * 1 + 0) * N + n.val
    omega))

/-- The running sum along the last axis: where the row holds `f 0, f 1, …`, entry `j` is `f 0 + … + f j`. -/
theorem cumsum3 {A B N Nm1 : ℕ} (hN : Nm1 + 1 = N) (x : IVec ⟨3, ![A, B, N]⟩ 32) (a : Fin A) (b : Fin B) (f : ℕ → ℕ)
    (hx : ∀ i : Fin N, x (ix3 a b i) = BitVec.ofNat 32 (f i.val)) {u : Shape} (init : IVec u 32) (hu : 0 < u.numel)
    (hinit : init (Shape.Idx.first hu) = 0#32)
    (h : (⟨3, ![A, B, N]⟩ : Shape).ReduceWindows (![1, 1, N] : Fin 3 → ℕ) ![1, 1, 1] ![0, 0, Nm1] ![0, 0, 0] ⟨3, ![A, B, N]⟩) (j : Fin N) :
    Host.reduceWindow IntOp.addi ![1, 1, N] ![1, 1, 1] ![0, 0, Nm1] ![0, 0, 0] x init h hu (ix3 a b j)
      = BitVec.ofNat 32 ((List.range (j.val + 1)).map f).sum := by
  subst hN
  have hj := j.isLt
  unfold Host.reduceWindow
  refine (Routing.foldl_addi_ofNat _ _ (fun n => if Nm1 ≤ j.val + n.val then f (j.val + n.val - Nm1) else 0) (fun n _ => ?_) _ 0 hinit).trans ?_
  · have hn : n.val < Nm1 + 1 := (n.cast (numel_win _)).isLt
    have e : ∀ c, ((⟨3, ![1, 1, Nm1 + 1]⟩ : Shape).rowMajor.symm n c).val = (ix3 (0 : Fin 1) (0 : Fin 1) (n.cast (numel_win _)) c).val := fun c => by rw [symm_win]
    have fst : a.val * 1 + ((⟨3, ![1, 1, Nm1 + 1]⟩ : Shape).rowMajor.symm n 0).val = a.val := (congrArg (a.val * 1 + ·) (e 0)).trans (Nat.mul_one _)
    have snd : b.val * 1 + ((⟨3, ![1, 1, Nm1 + 1]⟩ : Shape).rowMajor.symm n 1).val = b.val := (congrArg (b.val * 1 + ·) (e 1)).trans (Nat.mul_one _)
    have last : j.val * 1 + ((⟨3, ![1, 1, Nm1 + 1]⟩ : Shape).rowMajor.symm n 2).val = j.val + n.val :=
      (congrArg (j.val * 1 + ·) (e 2)).trans (congrArg (· + n.val) (Nat.mul_one _))
    by_cases hle : Nm1 ≤ j.val + n.val
    · rw [if_pos hle, ← hx ⟨j.val + n.val - Nm1, by omega⟩]
      refine (dif_pos (Fin.forall_fin_succ.mpr ⟨?_, Fin.forall_fin_succ.mpr ⟨?_, Fin.forall_fin_succ.mpr ⟨?_, nofun⟩⟩⟩)).trans
        (congrArg x (funext (Fin.forall_fin_succ.mpr ⟨Fin.ext ?_, Fin.forall_fin_succ.mpr ⟨Fin.ext ?_, Fin.forall_fin_succ.mpr ⟨Fin.ext ?_, nofun⟩⟩⟩)))
      · exact ⟨Nat.zero_le _, fst.trans_lt a.isLt⟩
      · exact ⟨Nat.zero_le _, snd.trans_lt b.isLt⟩
      · exact ⟨hle.trans_eq last.symm, (congrArg (· - Nm1) last).trans_lt (by show j.val + n.val - Nm1 < Nm1 + 1; omega)⟩
      · exact fst
      · exact snd
      · exact congrArg (· - Nm1) last
    · rw [if_neg hle]
      exact (dif_neg fun h => hle ((h 2).1.trans_eq last)).trans hinit
  · rw [Nat.zero_add, Routing.map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      (numel_win (Nm1 + 1))).trans (Routing.sum_window f Nm1 j.val (by omega)))

open Classical in
theorem sum_count (P : ℕ → Prop) (N : ℕ) : ((List.range N).map fun p => if P p then 1 else 0).sum = Nat.count P N := by
  induction N with
  | zero => simp
  | succ N ih => rw [List.range_succ, List.map_append, List.sum_append, ih, Nat.count_succ]; simp

/-! ## Counts and slots -/

section
open Classical

theorem count_zero {P : ℕ → Prop} {n : ℕ} : Nat.count P n = 0 ↔ ∀ m < n, ¬ P m := by
  rw [Nat.count_eq_card_filter_range, Finset.card_eq_zero, Finset.filter_eq_empty_iff]
  simp

theorem count_one {P : ℕ → Prop} {a b : ℕ} (hab : a < b) (ha : P a) (hu : ∀ n < b, P n → n = a) : Nat.count P b = 1 := by
  rw [Nat.count_eq_card_filter_range, Finset.card_eq_one]
  refine ⟨a, Finset.ext fun x => ?_⟩
  simp only [Finset.mem_filter, Finset.mem_range, Finset.mem_singleton]
  exact ⟨fun h => hu x h.1 h.2, fun h => h ▸ ⟨hab, ha⟩⟩

theorem count_gt {P : ℕ → Prop} {m n : ℕ} (hmn : m < n) (hm : P m) : Nat.count P m < Nat.count P n := by
  have h1 : Nat.count P (m + 1) ≤ Nat.count P n := Nat.count_monotone P hmn
  have h2 := Nat.count_succ P m
  rw [if_pos hm] at h2
  omega

/-- The least hit counted `s` before it, or the first hit where there is none, is slot `s`. -/
theorem two_of_counts {P : ℕ → Prop} {N : ℕ} {f a b : ℕ}
    (hf : (f = 0 ∧ ∀ p < N, ¬ P p) ∨ (f < N ∧ P f ∧ ∀ q < N, P q → f ≤ q))
    (ha : (a < N ∧ P a ∧ Nat.count P a = 0) ∨ (a = f ∧ ∀ q < N, ¬ (P q ∧ Nat.count P q = 0)))
    (hb : (b < N ∧ P b ∧ Nat.count P b = 1) ∨ (b = f ∧ ∀ q < N, ¬ (P q ∧ Nat.count P q = 1))) :
    a = (slots P N).1 ∧ b = (slots P N).2 := by
  have S := slots_spec P N
  generalize (slots P N).1 = A at *
  generalize (slots P N).2 = B at *
  rcases S with ⟨h0, rfl, rfl⟩ | ⟨hA, hh, hu, rfl⟩ | ⟨hAB, hB, hh, hhB, hu⟩
  · have hf0 : f = 0 := by
      rcases hf with ⟨h, _⟩ | ⟨h, h', _⟩
      · exact h
      · exact absurd h' (h0 _ h)
    constructor
    · rcases ha with ⟨h, h', _⟩ | ⟨h, _⟩
      · exact absurd h' (h0 _ h)
      · omega
    · rcases hb with ⟨h, h', _⟩ | ⟨h, _⟩
      · exact absurd h' (h0 _ h)
      · omega
  · have cA : Nat.count P B = 0 := count_zero.mpr fun m hm hP => by
      have := hu m (by omega) hP
      omega
    have hfA : f = B := by
      rcases hf with ⟨_, h⟩ | ⟨h, h', _⟩
      · exact absurd hh (h _ hA)
      · exact hu _ h h'
    constructor
    · rcases ha with ⟨h, h', _⟩ | ⟨h, _⟩
      · exact hu _ h h'
      · omega
    · rcases hb with ⟨h, h', h''⟩ | ⟨h, _⟩
      · exact hu _ h h'
      · omega
  · have cA : Nat.count P A = 0 := count_zero.mpr fun m hm hP => by
      have := hu m (by omega) hP
      omega
    have cB : Nat.count P B = 1 := count_one hAB hh hu
    constructor
    · rcases ha with ⟨h, h', h''⟩ | ⟨_, h⟩
      · by_contra hne
        rcases lt_or_ge a B with hlt | hge
        · exact hne (hu _ hlt h')
        · have := count_gt (lt_of_lt_of_le hAB hge) hh
          omega
      · exact absurd ⟨hh, cA⟩ (h A (by omega))
    · rcases hb with ⟨h, h', h''⟩ | ⟨_, h⟩
      · rcases lt_trichotomy b B with hlt | he | hgt
        · rw [hu _ hlt h'] at h''
          omega
        · exact he
        · have := count_gt hgt hhB
          omega
      · exact absurd ⟨hhB, cB⟩ (h B hB)

/-! ## The reference's slots -/

/-- The mask's row of a centre. -/
def rowHit (mk : IVec S4x2048x8192 1) (b : Fin 4) (n : Fin 2048) (p : ℕ) : Prop := ∃ h : p < 8192, mk (i3 b n ⟨p, h⟩) = 1#1

theorem rowHit_fin (mk : IVec S4x2048x8192 1) (b : Fin 4) (n : Fin 2048) (p : Fin 8192) :
    rowHit mk b n p.val ↔ mk (i3 b n p) = 1#1 := ⟨fun ⟨_, h⟩ => h, fun h => ⟨p.isLt, h⟩⟩

theorem countR_apply (mk : IVec S4x2048x8192 1) (b : Fin 4) (n : Fin 2048) (p : Fin 8192) :
    countR mk (i3 b n p) = BitVec.ofNat 32 (Nat.count (rowHit mk b n) (p.val + 1)) - 1#32 := by
  have h := cumsum3 (Nm1 := 8191) rfl (extui 32 mk natLt_1_32) b n (fun q => if rowHit mk b n q then 1 else 0) (fun i => by
      show (mk (i3 b n i)).setWidth 32 = _
      by_cases hi : rowHit mk b n i.val
      · rw [if_pos hi, (rowHit_fin mk b n i).mp hi]; decide
      · rw [if_neg hi, (bit _).resolve_right fun h => hi ((rowHit_fin mk b n i).mpr h)]; decide)
    (broadcastInDim S_ ![] bcast_S_S_ (constantI S_ 32 0#32)) h_S_ rfl
    reduceWindows_S4x2048x8192_S4x2048x8192_w1s1p0_0_w1s1p0_0_w8192s1p8191_0 p
  rw [sum_count] at h
  exact congrArg (· - 1#32) h

theorem selR_iff (mk : IVec S4x2048x8192 1) (b : Fin 4) (n : Fin 2048) (p : Fin 8192) {s : ℕ} (hs : s < 8192) :
    selR mk (countR mk) (BitVec.ofNat 32 s) (i3 b n p) = 1#1 ↔ rowHit mk b n p.val ∧ Nat.count (rowHit mk b n) p.val = s := by
  have e : selR mk (countR mk) (BitVec.ofNat 32 s) (i3 b n p)
      = IntOp.andi (mk (i3 b n p)) (IntOp.cmpi .eq (countR mk (i3 b n p)) (BitVec.ofNat 32 s)) := rfl
  have hand : ∀ v w : BitVec 1, IntOp.andi v w = 1#1 ↔ v = 1#1 ∧ w = 1#1 := by decide
  rw [e, hand, countR_apply, ← rowHit_fin]
  refine and_congr_right fun hp => ?_
  have hc := Nat.count_succ (rowHit mk b n) p.val
  rw [if_pos hp] at hc
  have hle : Nat.count (rowHit mk b n) p.val ≤ p.val := Nat.count_le _
  have hlt := p.isLt
  have hb : ∀ v w : BitVec 32, IntOp.cmpi .eq v w = 1#1 ↔ v = w := fun v w => by
    simp only [IntOp.cmpi]
    by_cases h : v = w
    · simp [h]
    · rw [beq_eq_false_iff_ne.mpr h]; simp [h]
  rw [hb, hc, BitVec.ofNat_add, BitVec.add_sub_cancel]
  constructor
  · intro h
    have := congrArg BitVec.toNat h
    rw [ofNat_small (by omega), ofNat_small hs] at this
    exact this
  · rintro rfl; rfl

theorem slotR_spec (mk : IVec S4x2048x8192 1) (b : Fin 4) (n : Fin 2048) {s : ℕ} (hs : s < 8192) (first : IVec S4x2048 32) :
    (∃ a < 8192, slotR mk (countR mk) first (BitVec.ofNat 32 s) (i2 b n) = BitVec.ofNat 32 a
      ∧ rowHit mk b n a ∧ Nat.count (rowHit mk b n) a = s) ∨
    (slotR mk (countR mk) first (BitVec.ofNat 32 s) (i2 b n) = first (i2 b n)
      ∧ ∀ q < 8192, ¬ (rowHit mk b n q ∧ Nat.count (rowHit mk b n) q = s)) := by
  have e : slotR mk (countR mk) first (BitVec.ofNat 32 s) (i2 b n)
    = Scalar.select (Host.reduce IntOp.ori (selR mk (countR mk) (BitVec.ofNat 32 s)) (constantI S_ 1 0#1) reducesTo_S4x2048x8192_S4x2048_d2 h_S_ (i2 b n))
      (argR (selR mk (countR mk) (BitVec.ofNat 32 s)) (i2 b n)) (first (i2 b n)) := rfl
  rw [e]
  have hany := any_spec (selR mk (countR mk) (BitVec.ofNat 32 s)) b n
  rcases argR_spec (selR mk (countR mk) (BitVec.ofNat 32 s)) b n with ⟨_, h⟩ | ⟨p, h1, h2, _⟩
  · right
    have h0 := (bit _).resolve_right fun h' => by
      obtain ⟨p, hp⟩ := hany.mp h'
      rw [h p] at hp
      exact absurd hp (by decide)
    rw [h0, sel0]
    refine ⟨rfl, fun q hq hh => ?_⟩
    have := (selR_iff mk b n ⟨q, hq⟩ hs).mpr hh
    rw [h] at this
    exact absurd this (by decide)
  · left
    rw [hany.mpr ⟨p, h2⟩, sel1]
    exact ⟨p.val, p.isLt, h1, (selR_iff mk b n p hs).mp h2⟩

/-- The reference's two slots of a centre are the two slots of the mask's row. -/
theorem slotR_slots (mk : IVec S4x2048x8192 1) (b : Fin 4) (n : Fin 2048) :
    slotR mk (countR mk) (argR mk) 0#32 (i2 b n) = BitVec.ofNat 32 (slots (rowHit mk b n) 8192).1
    ∧ slotR mk (countR mk) (argR mk) 1#32 (i2 b n) = BitVec.ofNat 32 (slots (rowHit mk b n) 8192).2 := by
  obtain ⟨f, ef, hf⟩ : ∃ f, argR mk (i2 b n) = BitVec.ofNat 32 f ∧ ((f = 0 ∧ ∀ p < 8192, ¬ rowHit mk b n p)
      ∨ (f < 8192 ∧ rowHit mk b n f ∧ ∀ q < 8192, rowHit mk b n q → f ≤ q)) := by
    rcases argR_spec mk b n with ⟨h0, h⟩ | ⟨p, h1, h2, h3⟩
    · refine ⟨0, h0, .inl ⟨rfl, fun p hp hh => ?_⟩⟩
      have := (rowHit_fin mk b n ⟨p, hp⟩).mp hh
      rw [h] at this
      exact absurd this (by decide)
    · exact ⟨p.val, h1, .inr ⟨p.isLt, (rowHit_fin mk b n p).mpr h2, fun q hq hh => h3 ⟨q, hq⟩ ((rowHit_fin mk b n ⟨q, hq⟩).mp hh)⟩⟩
  obtain ⟨a, ea, ha⟩ : ∃ a, slotR mk (countR mk) (argR mk) 0#32 (i2 b n) = BitVec.ofNat 32 a
      ∧ ((a < 8192 ∧ rowHit mk b n a ∧ Nat.count (rowHit mk b n) a = 0) ∨ (a = f ∧ ∀ q < 8192, ¬ (rowHit mk b n q ∧ Nat.count (rowHit mk b n) q = 0))) := by
    rcases slotR_spec mk b n (s := 0) (by omega) (argR mk) with ⟨a, h, e, h'⟩ | ⟨e, h⟩
    · exact ⟨a, e, .inl ⟨h, h'⟩⟩
    · exact ⟨f, e.trans ef, .inr ⟨rfl, h⟩⟩
  obtain ⟨c, ec, hc⟩ : ∃ a, slotR mk (countR mk) (argR mk) 1#32 (i2 b n) = BitVec.ofNat 32 a
      ∧ ((a < 8192 ∧ rowHit mk b n a ∧ Nat.count (rowHit mk b n) a = 1) ∨ (a = f ∧ ∀ q < 8192, ¬ (rowHit mk b n q ∧ Nat.count (rowHit mk b n) q = 1))) := by
    rcases slotR_spec mk b n (s := 1) (by omega) (argR mk) with ⟨a, h, e, h'⟩ | ⟨e, h⟩
    · exact ⟨a, e, .inl ⟨h, h'⟩⟩
    · exact ⟨f, e.trans ef, .inr ⟨rfl, h⟩⟩
  obtain ⟨r1, r2⟩ := two_of_counts hf ha hc
  exact ⟨by rw [ea, r1], by rw [ec, r2]⟩

end

theorem outR_left (u v : IVec S4x2048 32) (b : Fin 4) (n : Fin 2048) : outR u v (ix3 b n (0 : Fin 2)) = u (i2 b n) :=
  (concatenate_pair_apply_left (t := S4x2048x2) (s₁ := S4x2048x1) (s₂ := S4x2048x1) 2 _ _ _ (ix3 b n (0 : Fin 2)) rfl (ix3 b n (0 : Fin 1))
    (Fin.forall_fin_succ.mpr ⟨rfl, Fin.forall_fin_succ.mpr ⟨rfl, Fin.forall_fin_succ.mpr ⟨rfl, nofun⟩⟩⟩)).trans
    (congrArg u (funext (Fin.forall_fin_succ.mpr ⟨rfl, Fin.forall_fin_succ.mpr ⟨rfl, nofun⟩⟩)))

theorem outR_right (u v : IVec S4x2048 32) (b : Fin 4) (n : Fin 2048) : outR u v (ix3 b n (1 : Fin 2)) = v (i2 b n) :=
  (concatenate_pair_apply_right (t := S4x2048x2) (s₁ := S4x2048x1) (s₂ := S4x2048x1) 2 _ _ _ (ix3 b n (1 : Fin 2)) rfl rfl (ix3 b n (0 : Fin 1))
    (Fin.forall_fin_succ.mpr ⟨fun _ => rfl, Fin.forall_fin_succ.mpr ⟨fun _ => rfl, Fin.forall_fin_succ.mpr ⟨fun h => absurd rfl h, nofun⟩⟩⟩) rfl).trans
    (congrArg v (funext (Fin.forall_fin_succ.mpr ⟨rfl, Fin.forall_fin_succ.mpr ⟨rfl, nofun⟩⟩)))

/-- The result, entry by entry. -/
theorem resR_apply (mk : IVec S4x2048x8192 1) (b : Fin 4) (n : Fin 2048) (k : Fin 2) :
    resR mk (ix3 b n k) = BitVec.ofNat 32 (if k.val = 0 then (slots (rowHit mk b n) 8192).1 else (slots (rowHit mk b n) 8192).2) := by
  have hs := slotR_slots mk b n
  unfold resR
  generalize slotR mk (countR mk) (argR mk) 0#32 = u at *
  generalize slotR mk (countR mk) (argR mk) 1#32 = v at *
  match k with
  | ⟨0, _⟩ => exact (outR_left u v b n).trans hs.1
  | ⟨1, _⟩ => exact (outR_right u v b n).trans hs.2

end Cert.Proof.Ref

end
-- ==== Proof.RefMask.lean ====
/-
  The reference's mask at the ideal values, entry by entry.
-/
module

public import proofs.«01_k».proof.Proof.RefCount
public import proofs.«01_k».proof.Proof.TilePre
public import Idealize.ShloMosaic.Lib.Pointwise

@[expose] public section

noncomputable section

namespace Cert.Proof

open Idealize.ShloMosaic

/-- Whether a point lies in the radius of a centre, at the ideal values: the comparison of |c|² + |p|² − 2 c·p. -/
def within (cx cy cz px py pz : EReal) : BitVec 1 :=
  hit1 (F := Ideal) cx cy cz (sq1 (F := Ideal) cx cy cz) px py pz (sq1 (F := Ideal) px py pz)

/-- Rounding leaves an ideal value alone. -/
theorem rnd1_ideal (x : Ideal .f32) : rnd1 x = x := rfl

theorem within_eq (cx cy cz px py pz : EReal) : within cx cy cz px py pz
    = BitVec.ofBool (decide ((cx * cx + cy * cy + cz * cz) + (px * px + py * py + pz * pz)
        - Ideal.ofBits .f32 0x40000000#32 * (cx * px + cy * py + cz * pz) < Ideal.ofBits .f32 0x3C23D70A#32)) := by
  simp only [within, hit1, sq1, pointwise]

namespace Ref

open Cert.ReferenceIdeal Cert.ReferenceIdeal.Facts₀ Cert.ReferenceIdeal.Facts

theorem mask_apply (x : FVec Ideal S4x3x2048 .f32) (h : FVec Ideal S4x3x8192 .f32) (b : Fin 4) (n : Fin 2048) (p : Fin 8192) :
    maskR x h (i3 b n p) = within (x (ix3 b 0 n)) (x (ix3 b 1 n)) (x (ix3 b 2 n)) (h (ix3 b 0 p)) (h (ix3 b 1 p)) (h (ix3 b 2 p)) := by
  have e0 : i3 b n p 0 = b := rfl
  have e1 : i3 b n p 1 = n := rfl
  have e2 : i3 b n p 2 = p := rfl
  rw [within_eq]
  unfold maskR distR
  simp only [pointwise]
  simp [Fin.sum_univ_three, e0, e1, e2]

end Ref

end Cert.Proof
-- ==== Proof.BlockMask.lean ====
/-
  The pipelined kernel's block at the ideal values: the squared distance it compares, entry by entry.
-/
module

public import proofs.«01_k».proof.Proof.RefMask
public import proofs.«01_k».proof.Proof.Block

@[expose] public section

noncomputable section

namespace Cert.Proof

open Cert.KernelIdeal Cert.KernelIdeal.Gen

open Idealize.ShloMosaic Idealize.ShloMosaic.TcCoe

/-- The mask of a block. -/
def blockMask (xc : Vec Ideal S1x3x1024 .f32) (xp : Vec Ideal S1x3x8192 .f32) : IVec S1024x8192 1 :=
  cmpf .olt (k1_pay2 xc xp) (broadcast S1024x8192 (Scalar.ofBits .f32 0x3C23D70A#32))

theorem blockMask_apply (xc : Vec Ideal S1x3x1024 .f32) (xp : Vec Ideal S1x3x8192 .f32) (n : Fin 1024) (p : Fin 8192) :
    blockMask xc xp (ix2 n p)
      = within (xc (ix3 0 0 n)) (xc (ix3 0 1 n)) (xc (ix3 0 2 n)) (xp (ix3 0 0 p)) (xp (ix3 0 1 p)) (xp (ix3 0 2 p)) := by
  rw [within_eq]
  unfold blockMask k1_pay2
  simp only [pointwise]
  simp [Fin.sum_univ_three]

end Cert.Proof
-- ==== Proof.BlockVal.lean ====
/-
  The pipelined kernel's block, entry by entry: each row of the mask leaves its first hit and its second, found as the
  least hit and the least of those that remain.
-/
module

public import proofs.«01_k».proof.Proof.BlockMask
public import proofs.«01_k».proof.Proof.Slots

@[expose] public section

noncomputable section

namespace Cert.Proof

open Cert.KernelIdeal Cert.KernelIdeal.Gen

open Idealize.ShloMosaic Idealize.ShloMosaic.TcCoe

/-! ## The least of a row -/

theorem minsi_small {a b : BitVec 32} (ha : a.toNat < 2 ^ 31) (hb : b.toNat < 2 ^ 31) :
    (IntOp.minsi a b = a ∧ a.toNat ≤ b.toNat) ∨ (IntOp.minsi a b = b ∧ b.toNat ≤ a.toNat) := by
  have ea : a.toInt = a.toNat := BitVec.toInt_eq_toNat_of_lt (by omega)
  have eb : b.toInt = b.toNat := BitVec.toInt_eq_toNat_of_lt (by omega)
  simp only [IntOp.minsi, BitVec.slt, ea, eb, Nat.cast_lt]
  by_cases h : a.toNat < b.toNat
  · simp [h, h.le]
  · simp [h, not_lt.mp h]

theorem eq_bit {a b : BitVec 32} : IntOp.cmpi .eq a b = 1#1 ↔ a = b := by
  show BitVec.ofBool (a == b) = 1#1 ↔ a = b
  by_cases h : a = b
  · simp [h]
  · have e : (a == b) = false := beq_eq_false_iff_ne.mpr h
    rw [e]
    exact ⟨fun hc => absurd hc (by decide), fun hc => absurd hc h⟩

theorem sel_eq {α : Type} (a b : BitVec 32) (x y : α) : Scalar.select (IntOp.cmpi .eq a b) x y = if a = b then x else y := by
  by_cases h : a = b
  · rw [if_pos h, eq_bit.mpr h]; rfl
  · rw [if_neg h]; exact if_neg (fun hc => h (eq_bit.mp hc))

theorem fold_min {ι : Type*} [DecidableEq ι] (f : ι → BitVec 32) (hf : ∀ i, (f i).toNat < 2 ^ 31) (z : BitVec 32) (hz : z.toNat < 2 ^ 31)
    (s : Finset ι) : (s.fold IntOp.minsi z f).toNat < 2 ^ 31 ∧ (∀ i ∈ s, (s.fold IntOp.minsi z f).toNat ≤ (f i).toNat)
      ∧ (s.fold IntOp.minsi z f = z ∨ ∃ i ∈ s, s.fold IntOp.minsi z f = f i) := by
  induction s using Finset.induction_on with
  | empty => exact ⟨by simpa using hz, by simp, by simp⟩
  | insert j s hj ih =>
    obtain ⟨hr, hle, hex⟩ := ih
    rw [Finset.fold_insert hj]
    generalize s.fold IntOp.minsi z f = r at hr hle hex
    rcases minsi_small (hf j) hr with ⟨e, h⟩ | ⟨e, h⟩ <;> rw [e]
    · refine ⟨hf j, fun i hi => ?_, .inr ⟨j, Finset.mem_insert_self .., rfl⟩⟩
      rcases Finset.mem_insert.mp hi with rfl | hi
      · exact le_rfl
      · exact h.trans (hle i hi)
    · refine ⟨hr, fun i hi => ?_, hex.imp_right fun ⟨i, hi, e⟩ => ⟨i, Finset.mem_insert_of_mem hi, e⟩⟩
      rcases Finset.mem_insert.mp hi with rfl | hi
      · exact h
      · exact hle i hi

/-- The least number of a row that holds each hit's own number and 8192 elsewhere: the first hit, or 8192. -/
theorem least_row (P : ℕ → Prop) (f : Fin 8192 → BitVec 32)
    (hf : ∀ p : Fin 8192, (P p ∧ (f p).toNat = p) ∨ (¬ P p ∧ (f p).toNat = 8192)) :
    let r := (Finset.univ.fold IntOp.minsi 2147483647#32 f).toNat
    (r = 8192 ∧ ∀ p < 8192, ¬ P p) ∨ (r < 8192 ∧ P r ∧ ∀ p < 8192, P p → r ≤ p) := by
  have hs : ∀ p : Fin 8192, (f p).toNat ≤ 8192 := fun p => by rcases hf p with ⟨_, e⟩ | ⟨_, e⟩ <;> omega
  obtain ⟨-, hle, hex⟩ := fold_min f (fun i => (hs i).trans_lt (by norm_num)) 2147483647#32 (by decide) Finset.univ
  generalize Finset.univ.fold IntOp.minsi 2147483647#32 f = r at hle hex
  have h0 := (hle 0 (Finset.mem_univ _)).trans (hs 0)
  rcases hex with rfl | ⟨i, -, rfl⟩
  · exact absurd h0 (by decide)
  · have low : ∀ p < 8192, P p → (f i).toNat ≤ p := fun p hp hP => by
      have h := hle ⟨p, hp⟩ (Finset.mem_univ _)
      rcases hf ⟨p, hp⟩ with ⟨_, e⟩ | ⟨n, _⟩
      · rw [e] at h; exact h
      · exact absurd hP n
    rcases hf i with ⟨hP, e⟩ | ⟨_, e⟩
    · refine .inr ⟨by rw [e]; exact i.isLt, by rw [e]; exact hP, low⟩
    · refine .inl ⟨e, fun p hp hP => ?_⟩
      have := low p hp hP
      omega

/-- The least hit, and the least of the hits left once it is taken away, are the two slots. -/
theorem two_of_least {P : ℕ → Prop} {a b : ℕ}
    (ha : (a = 8192 ∧ ∀ p < 8192, ¬ P p) ∨ (a < 8192 ∧ P a ∧ ∀ p < 8192, P p → a ≤ p))
    (hb : (b = 8192 ∧ ∀ p < 8192, ¬ (P p ∧ p ≠ a)) ∨ (b < 8192 ∧ (P b ∧ b ≠ a) ∧ ∀ p < 8192, (P p ∧ p ≠ a) → b ≤ p)) :
    Two P 8192 (if a = 8192 then 0 else a) (if b = 8192 then (if a = 8192 then 0 else a) else b) := by
  rcases ha with ⟨rfl, h0⟩ | ⟨hl, hP, hm⟩
  · rcases hb with ⟨rfl, _⟩ | ⟨hl, ⟨hP, _⟩, _⟩
    · exact .inl ⟨h0, rfl, rfl⟩
    · exact absurd hP (h0 _ hl)
  · rw [if_neg hl.ne]
    rcases hb with ⟨rfl, h1⟩ | ⟨hl', ⟨hP', hne⟩, hm'⟩
    · refine .inr (.inl ⟨hl, hP, fun n hn hh => ?_, rfl⟩)
      by_contra hc
      exact h1 n hn ⟨hh, hc⟩
    · rw [if_neg hl'.ne]
      refine .inr (.inr ⟨lt_of_le_of_ne (hm b hl' hP') (Ne.symm hne), hl', hP, hP', fun n hn hh => ?_⟩)
      by_contra hc
      exact absurd (hm' n (hn.trans hl') ⟨hh, hc⟩) (not_le.mpr hn)

/-! ## The block's arrays -/

/-- Each hit's own number, 8192 elsewhere. -/
def keyA (mk : IVec S1024x8192 1) : IVec S1024x8192 32 :=
  select mk (iota .tc S1024x8192 32 [1] iota_S1024x8192_d1_w32) (broadcast S1024x8192 8192#32)

/-- Each row's least. -/
def rowMin (v : IVec S1024x8192 32) : IVec S1024 32 :=
  multiReductionI .minsi [1] S1024 v 2147483647#32 reduces_S1024x8192_S1024 rfl

/-- The rows with their least taken away. -/
def keyB (v : IVec S1024x8192 32) (m : IVec S1024 32) : IVec S1024x8192 32 :=
  select (cmpi .eq v (broadcastTo S1024x8192 (shapeCast S1024x1 m shapeCasts_S1024_S1024x1) broadcasts_S1024x1_S1024x8192))
    (broadcast S1024x8192 8192#32) v

/-- The least where there is one, else another value. -/
def orElse (m d : IVec S1024 32) : IVec S1024 32 := select (cmpi .eq m (broadcast S1024 8192#32)) d m

/-- The two rows of answers as the block. -/
def stackB (a b : IVec S1024 32) : IVec S1x2x1024 32 :=
  shapeCast S1x2x1024 (concatenate S2x1024 0 [⟨S1x1024, shapeCast S1x1024 a shapeCasts_S1024_S1x1024⟩,
    ⟨S1x1024, shapeCast S1x1024 b shapeCasts_S1024_S1x1024⟩] concatenates_S1x1024_S1x1024_S2x1024_d0) shapeCasts_S2x1024_S1x2x1024

def ansOf (mk : IVec S1024x8192 1) : IVec S1x2x1024 32 :=
  stackB (orElse (rowMin (keyA mk)) (broadcast S1024 0#32))
    (orElse (rowMin (keyB (keyA mk) (rowMin (keyA mk)))) (orElse (rowMin (keyA mk)) (broadcast S1024 0#32)))

theorem blockAns_eq (xc : Vec Ideal S1x3x1024 .f32) (xp : Vec Ideal S1x3x8192 .f32) : blockAns xc xp = ansOf (blockMask xc xp) := rfl

theorem keyA_apply (mk : IVec S1024x8192 1) (n : Fin 1024) (p : Fin 8192) :
    keyA mk (ix2 n p) = if mk (ix2 n p) = 1#1 then BitVec.ofNat 32 p else 8192#32 := by
  have e : iota .tc S1024x8192 32 [1] iota_S1024x8192_d1_w32 (ix2 n p) = BitVec.ofNat 32 p := iota_single_apply ..
  unfold keyA select
  rw [e]
  rfl

theorem rowMin_apply (v : IVec S1024x8192 32) (n : Fin 1024) :
    rowMin v (ix1 n) = Finset.univ.fold IntOp.minsi 2147483647#32 fun p : Fin 8192 => v (ix2 n p) := by
  unfold rowMin
  simp only [pointwise]

theorem keyB_apply (v : IVec S1024x8192 32) (m : IVec S1024 32) (n : Fin 1024) (p : Fin 8192) :
    keyB v m (ix2 n p) = if v (ix2 n p) = m (ix1 n) then 8192#32 else v (ix2 n p) := by
  unfold keyB
  simp only [pointwise, sel_eq]
  simp

theorem orElse_apply (m d : IVec S1024 32) (n : Fin 1024) :
    orElse m d (ix1 n) = if m (ix1 n) = 8192#32 then d (ix1 n) else m (ix1 n) := by
  unfold orElse
  simp only [pointwise, sel_eq]

theorem flat_apply (a : IVec S1024 32) (n : Fin 1024) : shapeCast S1x1024 a shapeCasts_S1024_S1x1024 (ix2 0 n) = a (ix1 n) := by
  simp only [pointwise]

theorem deep_apply (a : IVec S2x1024 32) (k : Fin 2) (n : Fin 1024) :
    shapeCast S1x2x1024 a shapeCasts_S2x1024_S1x2x1024 (ix3 0 k n) = a (ix2 k n) := by
  simp only [pointwise]

theorem stackB_left (a b : IVec S1024 32) (n : Fin 1024) : stackB a b (ix3 0 0 n) = a (ix1 n) := by
  unfold stackB
  rw [deep_apply]
  exact (concatenate_pair_apply_left (t := S2x1024) (s₁ := S1x1024) (s₂ := S1x1024) 0 _ _ _ (ix2 0 n) rfl (ix2 0 n)
    (Fin.forall_fin_succ.mpr ⟨rfl, Fin.forall_fin_succ.mpr ⟨rfl, nofun⟩⟩)).trans (flat_apply a n)

theorem stackB_right (a b : IVec S1024 32) (n : Fin 1024) : stackB a b (ix3 0 1 n) = b (ix1 n) := by
  unfold stackB
  rw [deep_apply]
  exact (concatenate_pair_apply_right (t := S2x1024) (s₁ := S1x1024) (s₂ := S1x1024) 0 _ _ _ (ix2 1 n) rfl rfl (ix2 0 n)
    (Fin.forall_fin_succ.mpr ⟨fun h => absurd rfl h, Fin.forall_fin_succ.mpr ⟨fun _ => rfl, nofun⟩⟩) rfl).trans (flat_apply b n)

/-! ## The answer -/

/-- Whether row `n` of the mask holds point `p`. -/
def blkHit (mk : IVec S1024x8192 1) (n : Fin 1024) (p : ℕ) : Prop := ∃ h : p < 8192, mk (ix2 n ⟨p, h⟩) = 1#1

theorem keyA_least (mk : IVec S1024x8192 1) (n : Fin 1024) (p : Fin 8192) :
    (blkHit mk n p ∧ (keyA mk (ix2 n p)).toNat = p) ∨ (¬ blkHit mk n p ∧ (keyA mk (ix2 n p)).toNat = 8192) := by
  rw [keyA_apply]
  by_cases h : mk (ix2 n p) = 1#1
  · rw [if_pos h]
    exact .inl ⟨⟨p.isLt, h⟩, Ref.ofNat_small p.isLt⟩
  · rw [if_neg h]
    exact .inr ⟨fun ⟨_, hh⟩ => h hh, rfl⟩

theorem keyB_least (mk : IVec S1024x8192 1) (m : IVec S1024 32) (n : Fin 1024) (p : Fin 8192) :
    ((blkHit mk n p ∧ (p : ℕ) ≠ (m (ix1 n)).toNat) ∧ (keyB (keyA mk) m (ix2 n p)).toNat = p)
      ∨ (¬ (blkHit mk n p ∧ (p : ℕ) ≠ (m (ix1 n)).toNat) ∧ (keyB (keyA mk) m (ix2 n p)).toNat = 8192) := by
  rw [keyB_apply]
  have H := keyA_least mk n p
  by_cases h : keyA mk (ix2 n p) = m (ix1 n)
  · rw [if_pos h, ← h]
    refine .inr ⟨fun ⟨hp, hne⟩ => ?_, rfl⟩
    rcases H with ⟨_, e⟩ | ⟨hn, _⟩
    · exact hne e.symm
    · exact hn hp
  · rw [if_neg h]
    rcases H with ⟨hp, e⟩ | ⟨hn, e⟩
    · refine .inl ⟨⟨hp, fun hc => h (BitVec.eq_of_toNat_eq (e.trans hc))⟩, e⟩
    · exact .inr ⟨fun hc => hn hc.1, e⟩

theorem orElse_nat (m d : IVec S1024 32) (n : Fin 1024) :
    orElse m d (ix1 n) = BitVec.ofNat 32 (if (m (ix1 n)).toNat = 8192 then (d (ix1 n)).toNat else (m (ix1 n)).toNat) := by
  rw [orElse_apply]
  by_cases h : m (ix1 n) = 8192#32
  · rw [if_pos h, if_pos (by rw [h]; rfl), BitVec.ofNat_toNat, BitVec.setWidth_eq]
  · rw [if_neg h, if_neg (fun hc : (m (ix1 n)).toNat = 8192 => h (BitVec.eq_of_toNat_eq hc)), BitVec.ofNat_toNat, BitVec.setWidth_eq]

theorem ansOf_apply (mk : IVec S1024x8192 1) (k : Fin 2) (n : Fin 1024) :
    ansOf mk (ix3 0 k n) = BitVec.ofNat 32 (if k.val = 0 then (slots (blkHit mk n) 8192).1 else (slots (blkHit mk n) 8192).2) := by
  have ha := least_row (blkHit mk n) _ (keyA_least mk n)
  have hb := least_row (fun p => blkHit mk n p ∧ p ≠ (rowMin (keyA mk) (ix1 n)).toNat) _ (keyB_least mk (rowMin (keyA mk)) n)
  rw [← rowMin_apply (keyB (keyA mk) (rowMin (keyA mk)))] at hb
  rw [← rowMin_apply (keyA mk)] at ha
  have T := two_of_least ha hb
  rw [T.slots_eq]
  unfold ansOf
  have e1 := orElse_nat (rowMin (keyA mk)) (broadcast S1024 0#32) n
  have z : ((broadcast S1024 0#32 : IVec S1024 32) (ix1 n)).toNat = 0 := rfl
  rw [z] at e1
  match k with
  | 0 => rw [stackB_left, e1, if_pos (c := (0 : Fin 2).val = 0) rfl]
  | 1 =>
    rw [stackB_right, orElse_nat, e1]
    have hs : (if (rowMin (keyA mk) (ix1 n)).toNat = 8192 then 0 else (rowMin (keyA mk) (ix1 n)).toNat) < 8192 := by
      rcases ha with ⟨e, _⟩ | ⟨hl, _⟩
      · rw [if_pos e]; norm_num
      · rw [if_neg hl.ne]; exact hl
    rw [Ref.ofNat_small hs, if_neg (c := (1 : Fin 2).val = 0) (by decide)]

end Cert.Proof
-- ==== Proof.RegionVal.lean ====
/-
  The array the pipelined kernel leaves, entry by entry: the first two hits of each centre of the two batches it is given.
-/
module

public import proofs.«01_k».proof.Proof.BlockVal
public import proofs.«01_k».proof.Proof.Region

@[expose] public section

noncomputable section

namespace Cert.Proof

open Cert.KernelIdeal Cert.KernelIdeal.Gen

open Idealize.ShloMosaic Idealize.ShloMosaic.TcCoe
open Idealize.ShloMosaic.Pipeline

/-- Whether point `p` of batch `b` is within the radius of centre `n`, of arrays of `B` batches. -/
def batchHit {B N : ℕ} (xc : FVec Ideal ⟨3, ![B, 3, N]⟩ .f32) (xp : FVec Ideal ⟨3, ![B, 3, 8192]⟩ .f32) (b : Fin B) (n : Fin N) (p : ℕ) : Prop :=
  ∃ h : p < 8192, within (xc (ix3 b 0 n)) (xc (ix3 b 1 n)) (xc (ix3 b 2 n))
    (xp (ix3 b 0 ⟨p, h⟩)) (xp (ix3 b 1 ⟨p, h⟩)) (xp (ix3 b 2 ⟨p, h⟩)) = 1#1

/-- A centre's answer: its first hit in row 0, its second in row 1. -/
def answer (hit : ℕ → Prop) (k : ℕ) : BitVec 32 := BitVec.ofNat 32 (if k = 0 then (slots hit 8192).1 else (slots hit 8192).2)

theorem answer_congr {h h' : ℕ → Prop} (k : ℕ) (e : ∀ p < 8192, h p ↔ h' p) : answer h k = answer h' k := by
  unfold answer
  rw [slots_congr e]

/-- The array of two batches' answers. -/
def regionG (xc : Vec Ideal S2x3x2048 .f32) (xp : Vec Ideal S2x3x8192 .f32) : IVec S2x2x2048 32 :=
  fun i => answer (batchHit xc xp (i 0) (i 2)) (i 1).val

theorem zero_mul_add (m x : ℕ) : 0 * m + x = x := by rw [Nat.zero_mul, Nat.zero_add]

theorem index0 : ∀ t : Fin cfg1.N, win1_0.index t = ![(grid1.coords t 0).val, 0, (grid1.coords t 1).val] :=
  (by decide +kernel : ∀ t : Fin grid1.N, _)
theorem index1 : ∀ t : Fin cfg1.N, win1_1.index t = ![(grid1.coords t 0).val, 0, 0] :=
  (by decide +kernel : ∀ t : Fin grid1.N, _)
theorem index2 : ∀ t : Fin cfg1.N, win1_2.index t = ![(grid1.coords t 0).val, 0, (grid1.coords t 1).val] :=
  (by decide +kernel : ∀ t : Fin grid1.N, _)

variable (V : (c : Dev nD) → (b : Ref sig .tc) → Buf (Elt Ideal) ((c : Thread nD τ).loc b))

theorem coord_lt (t : Fin cfg1.N) (a : Fin 2) : (grid1.coords t a).val < 2 := by
  match a with
  | 0 => exact (grid1.coords t 0).isLt
  | 1 => exact (grid1.coords t 1).isLt

/-- The batch a grid point works on. -/
def batchOf (t : Fin cfg1.N) : Fin 2 := ⟨(grid1.coords t 0).val, coord_lt t 0⟩
/-- The array's centre a block's centre is. -/
def centreOf (t : Fin cfg1.N) (n : Fin 1024) : Fin 2048 := ⟨(grid1.coords t 1).val * 1024 + n, by have := coord_lt t 1; omega⟩

theorem cenBlk_apply (c : Dev nD) (t : Fin cfg1.N) (r : Fin 3) (n : Fin 1024) :
    cenBlk V c t (ix3 0 r n) = V c main_v10 (ix3 (batchOf t) r (centreOf t n)) := by
  unfold cenBlk
  blk_simp
  refine congrArg _ (funext (Fin.forall_fin_succ.mpr ⟨?_, Fin.forall_fin_succ.mpr ⟨?_, Fin.forall_fin_succ.mpr ⟨?_, nofun⟩⟩⟩)) <;>
    (apply Fin.ext; blk_simp [index0]; first | rfl | exact zero_mul_add _ _)

theorem ptsBlk_apply (c : Dev nD) (t : Fin cfg1.N) (r : Fin 3) (p : Fin 8192) :
    ptsBlk V c t (ix3 0 r p) = V c main_v11 (ix3 (batchOf t) r p) := by
  unfold ptsBlk
  blk_simp
  refine congrArg _ (funext (Fin.forall_fin_succ.mpr ⟨?_, Fin.forall_fin_succ.mpr ⟨?_, Fin.forall_fin_succ.mpr ⟨?_, nofun⟩⟩⟩)) <;>
    (apply Fin.ext; blk_simp [index1]; first | rfl | exact zero_mul_add _ _)

theorem blk_hits (c : Dev nD) (t : Fin cfg1.N) (n : Fin 1024) (p : ℕ) :
    blkHit (blockMask (cenBlk V c t) (ptsBlk V c t)) n p ↔ batchHit (V c main_v10) (V c main_v11) (batchOf t) (centreOf t n) p := by
  refine exists_congr fun h => ?_
  rw [blockMask_apply, cenBlk_apply, cenBlk_apply, cenBlk_apply, ptsBlk_apply, ptsBlk_apply, ptsBlk_apply]

theorem regionOut_eq (c : Dev nD) : regionOut V c = regionG (V c main_v10) (V c main_v11) := by
  refine (rdat V c).arrAt_eq_of_covers 2 _ (by decide +kernel) fun t hf y => ?_
  blk_simp
  obtain ⟨z, k, n, rfl⟩ : ∃ (z : Fin 1) (k : Fin 2) (n : Fin 1024), y = (ix3 z k n : S1x2x1024.Idx) := ⟨y 0, y 1, y 2, eq_ix3 y⟩
  obtain rfl : z = 0 := Subsingleton.elim _ _
  have e : (win1_2.blk t).view.emb (ix3 0 k n : S1x2x1024.Idx) = (ix3 (batchOf t) k (centreOf t n) : S2x2x2048.Idx) := by
    refine funext (Fin.forall_fin_succ.mpr ⟨?_, Fin.forall_fin_succ.mpr ⟨?_, Fin.forall_fin_succ.mpr ⟨?_, nofun⟩⟩⟩) <;>
      (apply Fin.ext; blk_simp [index2]; first | rfl | exact zero_mul_add _ _)
  refine Eq.trans ?_ (congrArg (regionG (V c main_v10) (V c main_v11)) e).symm
  refine Eq.trans (b := blockAns (cenBlk V c t) (ptsBlk V c t) (ix3 0 k n)) rfl ?_
  rw [blockAns_eq, ansOf_apply]
  exact answer_congr k.val fun p _ => blk_hits V c t n p

end Cert.Proof
-- ==== Proof.EndVal.lean ====
/-
  The kernel's result at the end of its run, entry by entry: batches 0 and 1 from the pipelined kernel's array, batches 2
  and 3 from the SparseCores' two rows.
-/
module

public import proofs.«01_k».proof.Proof.RegionVal
public import proofs.«01_k».proof.Proof.Ends

@[expose] public section

noncomputable section

namespace Cert.Proof

open Cert.KernelIdeal Cert.KernelIdeal.Gen

open Idealize.ShloMosaic Idealize.ShloMosaic.TcCoe

/-! ## The host's stretches as functions -/

variable {F : FTy → Type} [FloatOps F]

/-- The last two batches, flat. -/
def flatC (x : FVec F S4x3x2048 .f32) : FVec F S12288 .f32 :=
  shapeCast S12288 (extractStridedSlice S2x3x2048 ![2, 0, 0] x slices_S4x3x2048_S2x3x2048_2_0_0) shapeCasts_S2x3x2048_S12288
def flatP (x : FVec F S4x3x8192 .f32) : FVec F S49152 .f32 :=
  shapeCast S49152 (extractStridedSlice S2x3x8192 ![2, 0, 0] x slices_S4x3x8192_S2x3x8192_2_0_0) shapeCasts_S2x3x8192_S49152

/-- The first two. -/
def headC (x : FVec F S4x3x2048 .f32) : FVec F S2x3x2048 .f32 := extractStridedSlice S2x3x2048 ![0, 0, 0] x slices_S4x3x2048_S2x3x2048_0_0_0
def headP (x : FVec F S4x3x8192 .f32) : FVec F S2x3x8192 .f32 := extractStridedSlice S2x3x8192 ![0, 0, 0] x slices_S4x3x8192_S2x3x8192_0_0_0

/-- The SparseCores' two rows side by side. -/
def pairUp (a b : IVec S4096 32) : IVec S2x2048x2 32 :=
  concatenate S2x2048x2 2 [⟨S2x2048x1, broadcastInDim S2x2048x1 ![0, 1] bcast_S2x2048_S2x2048x1_0_1 (shapeCast S2x2048 a shapeCasts_S4096_S2x2048)⟩,
    ⟨S2x2048x1, broadcastInDim S2x2048x1 ![0, 1] bcast_S2x2048_S2x2048x1_0_1 (shapeCast S2x2048 b shapeCasts_S4096_S2x2048)⟩]
    concatenates_S2x2048x1_S2x2048x1_S2x2048x2_d2

/-- The four batches together. -/
def whole (r : IVec S2x2x2048 32) (s : IVec S2x2048x2 32) : IVec S4x2048x2 32 :=
  concatenate S4x2048x2 0 [⟨S2x2048x2, transpose S2x2048x2 [0, 2, 1] r transposes_S2x2x2048_S2x2048x2_0_2_1⟩, ⟨S2x2048x2, s⟩]
    concatenates_S2x2048x2_S2x2048x2_S4x2048x2_d0

section
variable (W : Valuation τ sig (Elt F))

theorem opsA_cen : StableHlo.after opsA W (dv main_v1) = flatC (F := F) (W (dv main_arg0)) := by
  simp only [opsA, dv]
  after_results_simp
  rfl
theorem opsA_pts : StableHlo.after opsA W (dv main_v3) = flatP (F := F) (W (dv main_arg1)) := by
  simp only [opsA, dv]
  after_results_simp
  rfl
theorem opsB_cen : StableHlo.after opsB W (dv main_v10) = headC (F := F) (W (dv main_arg0)) := by
  simp only [opsB, dv]
  after_results_simp
  rfl
theorem opsB_pts : StableHlo.after opsB W (dv main_v11) = headP (F := F) (W (dv main_arg1)) := by
  simp only [opsB, dv]
  after_results_simp
  rfl
theorem opsB_pair : StableHlo.after opsB W (dv main_v9) = pairUp (W (dv main_v4_0)) (W (dv main_v4_1)) := by
  simp only [opsB, dv]
  after_results_simp
  rfl
theorem opsC_whole : StableHlo.after opsC W (dv main_v14) = whole (W (dv main_v12)) (W (dv main_v9)) := by
  simp only [opsC, dv]
  after_results_simp
  rfl
end

/-! ## The result in terms of the arguments -/

section
variable (m : (ℓ : Loc nD τ sig) → Buf (Elt Ideal) ℓ) (d : Dev nD)

/-- The two arguments. -/
abbrev argC : FVec Ideal S4x3x2048 .f32 := m (d, dv main_arg0)
abbrev argP : FVec Ideal S4x3x8192 .f32 := m (d, dv main_arg1)

theorem scCen_eq : scCen m d = flatC (argC m d) := opsA_cen (F := Ideal) _
theorem scPts_eq : scPts m d = flatP (argP m d) := opsA_pts (F := Ideal) _

theorem region_args : atRegion m d (dv main_v10) = headC (argC m d) ∧ atRegion m d (dv main_v11) = headP (argP m d) := by
  have a0 : afterCall m d (dv main_arg0) = argC m d :=
    (afterCall_other m d _ (by decide) (by decide)).trans (opsA_writes (F := Ideal) _ (by decide))
  have a1 : afterCall m d (dv main_arg1) = argP m d :=
    (afterCall_other m d _ (by decide) (by decide)).trans (opsA_writes (F := Ideal) _ (by decide))
  exact ⟨(opsB_cen (F := Ideal) _).trans (congrArg headC a0), (opsB_pts (F := Ideal) _).trans (congrArg headP a1)⟩

theorem end_value : atEnd m d (dv main_v14)
    = whole (regionG (headC (argC m d)) (headP (argP m d)))
        (pairUp (rowA (flatC (argC m d)) (flatP (argP m d))) (rowB (flatC (argC m d)) (flatP (argP m d)))) := by
  have h12 : afterRegion m d (dv main_v12) = regionG (headC (argC m d)) (headP (argP m d)) := by
    refine (afterRegion_out m d).trans ((regionOut_eq _ d).trans ?_)
    show regionG (atRegion m d (dv main_v10)) (atRegion m d (dv main_v11)) = _
    rw [(region_args m d).1, (region_args m d).2]
  have h9 : afterRegion m d (dv main_v9)
      = pairUp (rowA (flatC (argC m d)) (flatP (argP m d))) (rowB (flatC (argC m d)) (flatP (argP m d))) := by
    refine (afterRegion_other m d main_v9 (by decide)).trans ((opsB_pair (F := Ideal) _).trans ?_)
    rw [afterCall_A, afterCall_B, scCen_eq, scPts_eq]
  refine (opsC_whole (F := Ideal) _).trans ?_
  rw [h12, h9]
end

/-! ## Entries -/

theorem headC_apply (x : FVec F S4x3x2048 .f32) (b : Fin 2) (r : Fin 3) (n : Fin 2048) :
    headC x (ix3 b r n) = x (ix3 (⟨b, by omega⟩ : Fin 4) r n) :=
  extractStridedSlice_apply _ _ _ _ _ (Fin.forall_fin_succ.mpr ⟨(Nat.zero_add _).symm, Fin.forall_fin_succ.mpr ⟨(Nat.zero_add _).symm,
    Fin.forall_fin_succ.mpr ⟨(Nat.zero_add _).symm, nofun⟩⟩⟩)
theorem headP_apply (x : FVec F S4x3x8192 .f32) (b : Fin 2) (r : Fin 3) (n : Fin 8192) :
    headP x (ix3 b r n) = x (ix3 (⟨b, by omega⟩ : Fin 4) r n) :=
  extractStridedSlice_apply _ _ _ _ _ (Fin.forall_fin_succ.mpr ⟨(Nat.zero_add _).symm, Fin.forall_fin_succ.mpr ⟨(Nat.zero_add _).symm,
    Fin.forall_fin_succ.mpr ⟨(Nat.zero_add _).symm, nofun⟩⟩⟩)

theorem whole_left (r : IVec S2x2x2048 32) (s : IVec S2x2048x2 32) (b : Fin 4) (hb : b.val < 2) (n : Fin 2048) (k : Fin 2) :
    whole r s (ix3 b n k) = r (ix3 ⟨b, hb⟩ k n) := by
  unfold whole
  refine (concatenate_pair_apply_left (t := S4x2048x2) (s₁ := S2x2048x2) (s₂ := S2x2048x2) 0 _ _ _ (ix3 b n k) rfl (ix3 ⟨b, hb⟩ n k)
    (Fin.forall_fin_succ.mpr ⟨rfl, Fin.forall_fin_succ.mpr ⟨rfl, Fin.forall_fin_succ.mpr ⟨rfl, nofun⟩⟩⟩)).trans ?_
  simp only [pointwise]

theorem whole_right (r : IVec S2x2x2048 32) (s : IVec S2x2048x2 32) (b : Fin 4) (hb : 2 ≤ b.val) (n : Fin 2048) (k : Fin 2) :
    whole r s (ix3 b n k) = s (ix3 ⟨b - 2, by omega⟩ n k) := by
  unfold whole
  exact concatenate_pair_apply_right (t := S4x2048x2) (s₁ := S2x2048x2) (s₂ := S2x2048x2) 0 _ _ _ (ix3 b n k) rfl rfl (ix3 ⟨b - 2, by omega⟩ n k)
    (Fin.forall_fin_succ.mpr ⟨fun h => absurd rfl h, Fin.forall_fin_succ.mpr ⟨fun _ => rfl, Fin.forall_fin_succ.mpr ⟨fun _ => rfl, nofun⟩⟩⟩)
    (show b.val - 2 + 2 = b.val by omega)

/-! ## The flat arrays -/

theorem ofNat_val {N k : ℕ} [NeZero N] (h : k < N) : (Fin.ofNat N k).val = k := Nat.mod_eq_of_lt h

theorem flatC_apply (x : FVec F S4x3x2048 .f32) (b : Fin 2) (r : Fin 3) (n : Fin 2048) :
    cenAt (flatC x) b n r = x (ix3 (⟨b + 2, by omega⟩ : Fin 4) r n) := by
  unfold cenAt flatC
  have hlt : (3 * b.val + r.val) * 2048 + n.val < 12288 := by omega
  refine (shapeCast_apply _ shapeCasts_S2x3x2048_S12288 _ (ix3 b r n : S2x3x2048.Idx) ?_).trans ?_
  · refine (Shape.rowMajor_val_three _).trans (Eq.trans ?_ ((Shape.rowMajor_val_one _).trans (ofNat_val hlt)).symm)
    show (b.val * 3 + r.val) * 2048 + n.val = _
    rw [Nat.mul_comm 3]
  · exact extractStridedSlice_apply _ _ _ _ _ (Fin.forall_fin_succ.mpr ⟨Nat.add_comm _ _, Fin.forall_fin_succ.mpr ⟨(Nat.zero_add _).symm,
      Fin.forall_fin_succ.mpr ⟨(Nat.zero_add _).symm, nofun⟩⟩⟩)

theorem flatP_apply (x : FVec F S4x3x8192 .f32) (b : Fin 2) (r : Fin 3) (p : Fin 8192) :
    ptAt (flatP x) b p r = x (ix3 (⟨b + 2, by omega⟩ : Fin 4) r p) := by
  unfold ptAt flatP
  have hlt : (3 * b.val + r.val) * 8192 + p.val < 49152 := by omega
  refine (shapeCast_apply _ shapeCasts_S2x3x8192_S49152 _ (ix3 b r p : S2x3x8192.Idx) ?_).trans ?_
  · refine (Shape.rowMajor_val_three _).trans (Eq.trans ?_ ((Shape.rowMajor_val_one _).trans (ofNat_val hlt)).symm)
    show (b.val * 3 + r.val) * 8192 + p.val = _
    rw [Nat.mul_comm 3]
  · exact extractStridedSlice_apply _ _ _ _ _ (Fin.forall_fin_succ.mpr ⟨Nat.add_comm _ _, Fin.forall_fin_succ.mpr ⟨(Nat.zero_add _).symm,
      Fin.forall_fin_succ.mpr ⟨(Nat.zero_add _).symm, nofun⟩⟩⟩)

/-- A flat row at a batch's centre. -/
theorem unflat_apply (a : IVec S4096 32) (b : Fin 2) (n : Fin 2048) :
    broadcastInDim S2x2048x1 ![0, 1] bcast_S2x2048_S2x2048x1_0_1 (shapeCast S2x2048 a shapeCasts_S4096_S2x2048) (ix3 b n 0)
      = a (ix1 ⟨b.val * 2048 + n.val, by omega⟩) := by
  refine (broadcastInDim_apply _ _ _ _ (ix2 b n : S2x2048.Idx) (Fin.forall_fin_succ.mpr ⟨rfl, Fin.forall_fin_succ.mpr ⟨rfl, nofun⟩⟩)).trans ?_
  refine shapeCast_apply _ shapeCasts_S4096_S2x2048 _ _ ?_
  exact (Shape.rowMajor_val_one _).trans (Eq.symm (Shape.rowMajor_val_two (d := ![2, 2048]) (ix2 b n)))

theorem pairUp_left (u v : IVec S4096 32) (b : Fin 2) (n : Fin 2048) : pairUp u v (ix3 b n 0) = u (ix1 ⟨b.val * 2048 + n.val, by omega⟩) :=
  (concatenate_pair_apply_left (t := S2x2048x2) (s₁ := S2x2048x1) (s₂ := S2x2048x1) 2 _ _ _ (ix3 b n (0 : Fin 2)) rfl (ix3 b n (0 : Fin 1))
    (Fin.forall_fin_succ.mpr ⟨rfl, Fin.forall_fin_succ.mpr ⟨rfl, Fin.forall_fin_succ.mpr ⟨rfl, nofun⟩⟩⟩)).trans (unflat_apply u b n)

theorem pairUp_right (u v : IVec S4096 32) (b : Fin 2) (n : Fin 2048) : pairUp u v (ix3 b n 1) = v (ix1 ⟨b.val * 2048 + n.val, by omega⟩) :=
  (concatenate_pair_apply_right (t := S2x2048x2) (s₁ := S2x2048x1) (s₂ := S2x2048x1) 2 _ _ _ (ix3 b n (1 : Fin 2)) rfl rfl (ix3 b n (0 : Fin 1))
    (Fin.forall_fin_succ.mpr ⟨fun _ => rfl, Fin.forall_fin_succ.mpr ⟨fun _ => rfl, Fin.forall_fin_succ.mpr ⟨fun h => absurd rfl h, nofun⟩⟩⟩) rfl).trans
    (unflat_apply v b n)

/-! ## The hits -/

section
variable (x : FVec Ideal S4x3x2048 .f32) (h : FVec Ideal S4x3x8192 .f32)

theorem head_hits (b : Fin 2) (n : Fin 2048) (p : ℕ) :
    batchHit (headC x) (headP h) b n p ↔ batchHit x h (⟨b, by omega⟩ : Fin 4) n p := by
  refine exists_congr fun hp => ?_
  rw [headC_apply, headC_apply, headC_apply, headP_apply, headP_apply, headP_apply]

theorem flat_hits (b : Fin 2) (n : Fin 2048) (p : ℕ) (hp : p < 8192) :
    hitG (flatC x) (flatP h) b n p ↔ batchHit x h (⟨b + 2, by omega⟩ : Fin 4) n p := by
  have c := fun r : Fin 3 => flatC_apply x b r n
  have q := fun r : Fin 3 => flatP_apply h b r ⟨p, hp⟩
  unfold hitG
  have c0 := c 0
  have c1 := c 1
  have c2 := c 2
  have q0 := q 0
  have q1 := q 1
  have q2 := q 2
  simp only [Fin.val_zero, Fin.val_one, Fin.val_two] at c0 c1 c2 q0 q1 q2
  rw [c0, c1, c2, q0, q1, q2]
  exact ⟨fun e => ⟨hp, e⟩, fun ⟨_, e⟩ => e⟩

theorem row_split (b : Fin 2) (n : Fin 2048) : (b.val * 2048 + n.val) / 2048 = b.val ∧ (b.val * 2048 + n.val) % 2048 = n.val := by
  omega

theorem rows_apply (b : Fin 2) (n : Fin 2048) (k : Fin 2) :
    pairUp (rowA (flatC x) (flatP h)) (rowB (flatC x) (flatP h)) (ix3 b n k)
      = answer (batchHit x h (⟨b + 2, by omega⟩ : Fin 4) n) k := by
  obtain ⟨e1, e2⟩ := row_split b n
  rw [← answer_congr k.val (flat_hits x h b n)]
  match k with
  | 0 =>
    rw [pairUp_left]
    unfold rowA
    rw [ix1_0, e1, e2]
    rfl
  | 1 =>
    rw [pairUp_right]
    unfold rowB
    rw [ix1_0, e1, e2]
    rfl

/-- The kernel's result: each centre's first two hits. -/
theorem result_apply (b : Fin 4) (n : Fin 2048) (k : Fin 2) :
    whole (regionG (headC x) (headP h)) (pairUp (rowA (flatC x) (flatP h)) (rowB (flatC x) (flatP h))) (ix3 b n k)
      = answer (batchHit x h b n) k := by
  by_cases hb : b.val < 2
  · rw [whole_left _ _ b hb]
    exact answer_congr k.val fun p _ => head_hits x h ⟨b, hb⟩ n p
  · rw [whole_right _ _ b (not_lt.mp hb), rows_apply]
    have e : (⟨b.val - 2 + 2, by omega⟩ : Fin 4) = b := Fin.ext (by show b.val - 2 + 2 = b.val; omega)
    exact congrArg (fun b' => answer (batchHit x h b' n) k.val) e
end

end Cert.Proof
-- ==== Proof.Equation.lean ====
/-
  The value claim: at the ideal values the kernel's result is the reference's.
-/
module

public import proofs.«01_k».proof.Defs
public import proofs.«01_k».proof.Proof.EndVal
public import proofs.«01_k».proof.Proof.Frames

@[expose] public section

noncomputable section

namespace Cert.Proof

open Idealize.ShloMosaic Idealize.ShloMosaic.TcCoe Idealize.SL.Sem

section
variable (x : FVec Ideal KernelIdeal.S4x3x2048 .f32) (h : FVec Ideal KernelIdeal.S4x3x8192 .f32)

theorem ref_hits (b : Fin 4) (n : Fin 2048) (p : ℕ) : Ref.rowHit (Ref.maskR (F := Ideal) x h) b n p ↔ batchHit x h b n p := by
  refine exists_congr fun hp => ?_
  rw [Ref.mask_apply]

theorem ref_apply (b : Fin 4) (n : Fin 2048) (k : Fin 2) : Ref.resR (Ref.maskR (F := Ideal) x h) (ix3 b n k) = answer (batchHit x h b n) k := by
  have e : (ValueIdx.ix3 b n k : ReferenceIdeal.S4x2048x2.Idx) = ix3 b n k := eq_ix3 _
  rw [← e, Ref.resR_apply]
  exact answer_congr k.val fun p _ => ref_hits x h b n p

/-- Entry by entry the two results agree. -/
theorem results_eq : whole (regionG (headC x) (headP h)) (pairUp (rowA (flatC x) (flatP h)) (rowB (flatC x) (flatP h)))
    = Ref.resR (Ref.maskR (F := Ideal) x h) := by
  funext i
  rw [eq_ix3 i]
  exact (result_apply x h _ _ _).trans (ref_apply x h _ _ _).symm
end

theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => atEnd m c (dv KernelIdeal.main_v14), ?_, ?_⟩
  · exact (θ_run Cert.KernelIdeal.defs _ _).mono (fun _ H => H.1) (run_ends (F := Ideal) m g)
  · refine θ_run_mono (Ref.run_ref (F := Ideal) m' g') fun r H c => ⟨(H.1 c).1.trans ?_, (H.1 c).2⟩
    rw [(hm c).1, (hm c).2]
    exact ((end_value m c).trans (results_eq _ _)).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.RefVals
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, Ref.frame_ref, trivial, algebraic⟩

end Cert.Proof

end
